-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_fixed_layout [hPre_finite_fixed_layout : Cert.Pre_finite_fixed_layout.Facts] (m : (ℓ : Loc Cert.KernelIdeal.nD Cert.KernelIdeal.τ Cert.KernelIdeal.sig) → Buf (Elt Ideal) ℓ) : Prop :=
  ∀ c : Dev Cert.KernelIdeal.nD,
    (Cert.Pre_finite_fixed_layout.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_fixed_layout [hPre_finite_fixed_layout : Cert.Pre_finite_fixed_layout.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_fixed_layout.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_fixed_layout [hKernelIdeal : Cert.KernelIdeal.Facts] [hPre_finite_fixed_layout : Cert.Pre_finite_fixed_layout.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_fixed_layout m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_fixed_layout [hReferenceIdeal : Cert.ReferenceIdeal.Facts] [hPre_finite_fixed_layout : Cert.Pre_finite_fixed_layout.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_fixed_layout m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_fixed_layout [hKernelIdeal : Cert.KernelIdeal.Facts] [hReferenceIdeal : Cert.ReferenceIdeal.Facts] [hPre_finite_fixed_layout : Cert.Pre_finite_fixed_layout.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_fixed_layout m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_fixed_layout : Cert.Pre_finite_fixed_layout.Facts),
    quiescent_Kernel (hKernel := hKernel)
    ∧ quiescent_KernelIdeal (hKernelIdeal := hKernelIdeal)
    ∧ quiescent_KernelIdeal_pre_finite_fixed_layout (hKernelIdeal := hKernelIdeal) (hPre_finite_fixed_layout := hPre_finite_fixed_layout)
    ∧ quiescent_ReferenceIdeal (hReferenceIdeal := hReferenceIdeal)
    ∧ quiescent_ReferenceIdeal_pre_finite_fixed_layout (hReferenceIdeal := hReferenceIdeal) (hPre_finite_fixed_layout := hPre_finite_fixed_layout)
    ∧ preserves_Kernel_KernelIdeal
    ∧ algebraic_KernelIdeal_ReferenceIdeal_pre_finite_fixed_layout (hKernelIdeal := hKernelIdeal) (hReferenceIdeal := hReferenceIdeal) (hPre_finite_fixed_layout := hPre_finite_fixed_layout)
-- ==== Pre_finite_fixed_layout.lean ====
abbrev S2x16x2048x128 : Shape := ⟨4, ![2, 16, 2048, 128]⟩
abbrev S16x2048x2048 : Shape := ⟨3, ![16, 2048, 2048]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S16x2048x2048 : S_.BroadcastsInDim S16x2048x2048 (![] : Fin 0 → Fin S16x2048x2048.rank)
  natLt_1_32 : 1 < 32

variable [Facts]

def fn_part1 {F : FTy → Type} [FloatOps F] (main_arg3 : IVec S16x2048x2048 1) (main_v8 : IVec S_ 1) (main_v11 : IVec S16x2048x2048 32) (main_v14 : IVec S16x2048x2048 32) (main_v16 : IVec S16x2048x2048 32) : IVec S16x2048x2048 1 :=
  let main_c_5 : IVec S_ 32 := constantI S_ 32 4#32
  let main_v17 : IVec S16x2048x2048 32 := broadcastInDim S16x2048x2048 ![] bcast_S_S16x2048x2048 main_c_5
  let main_v18 : IVec S16x2048x2048 32 := Host.divsi main_v14 main_v17
  let main_v19 : IVec S16x2048x2048 1 := cmpi .eq main_v16 main_v18
  let main_v20 : IVec S16x2048x2048 1 := cmpi .sle main_v14 main_v11
  let main_v21 : IVec S16x2048x2048 1 := andi main_v19 main_v20
  let main_c_6 : IVec S_ 32 := constantI S_ 32 4#32
  let main_v22 : IVec S16x2048x2048 32 := broadcastInDim S16x2048x2048 ![] bcast_S_S16x2048x2048 main_c_6
  let main_v23 : IVec S16x2048x2048 32 := Host.remsi main_v14 main_v22
  let main_c_7 : IVec S_ 32 := constantI S_ 32 3#32
  let main_v24 : IVec S16x2048x2048 32 := broadcastInDim S16x2048x2048 ![] bcast_S_S16x2048x2048 main_c_7
  let main_v25 : IVec S16x2048x2048 1 := cmpi .eq main_v23 main_v24
  let main_v26 : IVec S16x2048x2048 1 := cmpi .slt main_v14 main_v11
  let main_v27 : IVec S16x2048x2048 1 := andi main_v25 main_v26
  let main_v28 : IVec S16x2048x2048 32 := (extui 32 · natLt_1_32) main_arg3
  let main_v29 : IVec S16x2048x2048 1 := ori main_v21 main_v27
  let main_v30 : IVec S16x2048x2048 32 := (extui 32 · natLt_1_32) main_v29
  let main_v31 : IVec S16x2048x2048 1 := cmpi .eq main_v28 main_v30
  let main_v32 : IVec S16x2048x2048 1 := broadcastInDim S16x2048x2048 ![] bcast_S_S16x2048x2048 main_v8
  let main_v33 : IVec S16x2048x2048 1 := andi main_v32 main_v31
  main_v33

def fn {F : FTy → Type} [FloatOps F] (main_arg0 : FVec F S2x16x2048x128 .f32) (main_arg1 : FVec F S2x16x2048x128 .f32) (main_arg2 : FVec F S2x16x2048x128 .f32) (main_arg3 : IVec S16x2048x2048 1) : IVec S16x2048x2048 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : IVec S16x2048x2048 32 := iotaInDim S16x2048x2048 32 1
  let main_c_2 : IVec S_ 32 := constantI S_ 32 16#32
  let main_v10 : IVec S16x2048x2048 32 := broadcastInDim S16x2048x2048 ![] bcast_S_S16x2048x2048 main_c_2
  let main_v11 : IVec S16x2048x2048 32 := Host.divsi main_v9 main_v10
  let main_v12 : IVec S16x2048x2048 32 := iotaInDim S16x2048x2048 32 2
  let main_c_3 : IVec S_ 32 := constantI S_ 32 16#32
  let main_v13 : IVec S16x2048x2048 32 := broadcastInDim S16x2048x2048 ![] bcast_S_S16x2048x2048 main_c_3
  let main_v14 : IVec S16x2048x2048 32 := Host.divsi main_v12 main_v13
  let main_c_4 : IVec S_ 32 := constantI S_ 32 4#32
  let main_v15 : IVec S16x2048x2048 32 := broadcastInDim S16x2048x2048 ![] bcast_S_S16x2048x2048 main_c_4
  let main_v16 : IVec S16x2048x2048 32 := Host.divsi main_v11 main_v15
  fn_part1 (F := F) main_arg3 main_v8 main_v11 main_v14 main_v16
-- ==== Kernel.lean ====
abbrev S2x16x2048x128 : Shape := ⟨4, ![2, 16, 2048, 128]⟩
abbrev S16x2048x2048 : Shape := ⟨3, ![16, 2048, 2048]⟩
abbrev S128x128 : Shape := ⟨2, ![128, 128]⟩
abbrev S16x512 : Shape := ⟨2, ![16, 512]⟩
abbrev S16x2x2048x128 : Shape := ⟨4, ![16, 2, 2048, 128]⟩
abbrev S1x2x2048x128 : Shape := ⟨4, ![1, 2, 2048, 128]⟩
abbrev S3x2x2048x128 : Shape := ⟨4, ![3, 2, 2048, 128]⟩
abbrev S2x512x128 : Shape := ⟨3, ![2, 512, 128]⟩
abbrev S3x3 : Shape := ⟨2, ![3, 3]⟩
abbrev S1x1 : Shape := ⟨2, ![1, 1]⟩
abbrev S_ : Shape := ⟨0, ![]⟩
abbrev S2x2048x128 : Shape := ⟨3, ![2, 2048, 128]⟩
abbrev S1x16x128 : Shape := ⟨3, ![1, 16, 128]⟩
abbrev S16x128 : Shape := ⟨2, ![16, 128]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩
abbrev S1x1x128x128 : Shape := ⟨4, ![1, 1, 128, 128]⟩
abbrev S1x256x128 : Shape := ⟨3, ![1, 256, 128]⟩
abbrev S256x128 : Shape := ⟨2, ![256, 128]⟩
abbrev S128x256 : Shape := ⟨2, ![128, 256]⟩
abbrev S1x256 : Shape := ⟨2, ![1, 256]⟩
abbrev S1x384x128 : Shape := ⟨3, ![1, 384, 128]⟩
abbrev S384x128 : Shape := ⟨2, ![384, 128]⟩
abbrev S128x384 : Shape := ⟨2, ![128, 384]⟩
abbrev S1x384 : Shape := ⟨2, ![1, 384]⟩
abbrev S1x512x128 : Shape := ⟨3, ![1, 512, 128]⟩
abbrev S512x128 : Shape := ⟨2, ![512, 128]⟩
abbrev S128x512 : Shape := ⟨2, ![128, 512]⟩
abbrev S1x512 : Shape := ⟨2, ![1, 512]⟩

abbrev nBuf : Space → Nat
  | .hbm => 11
  | .vmem => 9
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S16x2048x2048, .i1⟩
  | .hbm, ⟨4, _⟩ => ⟨S128x128, .f32⟩
  | .hbm, ⟨5, _⟩ => ⟨S16x512, .f32⟩
  | .hbm, ⟨6, _⟩ => ⟨S16x2x2048x128, .f32⟩
  | .hbm, ⟨7, _⟩ => ⟨S16x2x2048x128, .f32⟩
  | .hbm, ⟨8, _⟩ => ⟨S16x2x2048x128, .f32⟩
  | .hbm, ⟨9, _⟩ => ⟨S16x2x2048x128, .f32⟩
  | .hbm, ⟨10, _⟩ => ⟨S2x16x2048x128, .f32⟩
  | .local _ .vmem, ⟨0, _⟩ => ⟨S128x128, .f32⟩
  | .local _ .vmem, ⟨1, _⟩ => ⟨S16x512, .f32⟩
  | .local _ .vmem, ⟨2, _⟩ => ⟨S1x2x2048x128, .f32⟩
  | .local _ .vmem, ⟨3, _⟩ => ⟨S1x2x2048x128, .f32⟩
  | .local _ .vmem, ⟨4, _⟩ => ⟨S3x2x2048x128, .f32⟩
  | .local _ .vmem, ⟨5, _⟩ => ⟨S3x2x2048x128, .f32⟩
  | .local _ .vmem, ⟨6, _⟩ => ⟨S3x2x2048x128, .f32⟩
  | .local _ .vmem, ⟨7, _⟩ => ⟨S2x512x128, .f32⟩
  | .local _ .vmem, ⟨8, _⟩ => ⟨S2x512x128, .bf16⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v4 : BitVec 32 := Scalar.addi arg0 c2_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c2_i32_2349 : BitVec 32 := 2#32
  let v2644 : BitVec 32 := Scalar.addi arg0 c2_i32_2349
  let c3_i32_2350 : BitVec 32 := 3#32
  let v2645 : BitVec 32 := Scalar.remsi v2644 c3_i32_2350
  let c0_i32_2351 : BitVec 32 := 0#32
  ![v2645.toNat, 0]
def k0_off2 (i : grid0.Coords) : Fin 4 → Nat :=
  let arg0 : BitVec 32 := BitVec.ofNat 32 (i 0).val
  let c2_i32_2349 : BitVec 32 := 2#32
  let v2644 : BitVec 32 := Scalar.addi arg0 c2_i32_2349
  let c3_i32_2350 : BitVec 32 := 3#32
  let v2645 : BitVec 32 := Scalar.remsi v2644 c3_i32_2350
  let c0_i32_2352 : BitVec 32 := 0#32
  let c0_i32_2353 : BitVec 32 := 0#32
  let c0_i32_2354 : BitVec 32 := 0#32
  ![v2645.toNat, 0, 0, 0]
def k0_off3 (i : grid0.Coords) : Fin 4 → Nat :=
  let arg0 : BitVec 32 := BitVec.ofNat 32 (i 0).val
  let c2_i32_2348 : BitVec 32 := 2#32
  let v2643 : BitVec 32 := Scalar.addi arg0 c2_i32_2348
  let c0_i32_2355 : BitVec 32 := 0#32
  let c0_i32_2356 : BitVec 32 := 0#32
  let c0_i32_2357 : BitVec 32 := 0#32
  ![v2643.toNat, 0, 0, 0]
def k0_off4 (i : grid0.Coords) : Fin 2 → Nat :=
  let arg0 : BitVec 32 := BitVec.ofNat 32 (i 0).val
  let c2_i32_2349 : BitVec 32 := 2#32
  let v2644 : BitVec 32 := Scalar.addi arg0 c2_i32_2349
  let c3_i32_2350 : BitVec 32 := 3#32
  let v2645 : BitVec 32 := Scalar.remsi v2644 c3_i32_2350
  let c1_i32_2358 : BitVec 32 := 1#32
  ![v2645.toNat, 1]
def k0_off5 (i : grid0.Coords) : Fin 2 → Nat :=
  let arg0 : BitVec 32 := BitVec.ofNat 32 (i 0).val
  let c2_i32_2349 : BitVec 32 := 2#32
  let v2644 : BitVec 32 := Scalar.addi arg0 c2_i32_2349
  let c3_i32_2350 : BitVec 32 := 3#32
  let v2645 : BitVec 32 := Scalar.remsi v2644 c3_i32_2350
  let c2_i32_2365 : BitVec 32 := 2#32
  ![v2645.toNat, 2]
def k0_off6 (i : grid0.Coords) : Fin 2 → Nat :=
  let arg0 : BitVec 32 := BitVec.ofNat 32 (i 0).val
  let c3_i32 : BitVec 32 := 3#32
  let v0 : BitVec 32 := Scalar.remsi arg0 c3_i32
  let c0_i32_2 : BitVec 32 := 0#32
  ![v0.toNat, 0]
def k0_off7 (i : grid0.Coords) : Fin 4 → Nat :=
  let arg0 : BitVec 32 := BitVec.ofNat 32 (i 0).val
  let c3_i32 : BitVec 32 := 3#32
  let v0 : BitVec 32 := Scalar.remsi arg0 c3_i32
  let c0_i32_3 : BitVec 32 := 0#32
  let c0_i32_4 : BitVec 32 := 0#32
  let c0_i32_5 : BitVec 32 := 0#32
  ![v0.toNat, 0, 0, 0]
def k0_off8 (i : grid0.Coords) : Fin 4 → Nat :=
  let arg0 : BitVec 32 := BitVec.ofNat 32 (i 0).val
  let c0_i32_6 : BitVec 32 := 0#32
  let c0_i32_7 : BitVec 32 := 0#32
  let c0_i32_8 : BitVec 32 := 0#32
  ![arg0.toNat, 0, 0, 0]
def k0_off9 (i : grid0.Coords) : Fin 2 → Nat :=
  let arg0 : BitVec 32 := BitVec.ofNat 32 (i 0).val
  let c3_i32 : BitVec 32 := 3#32
  let v0 : BitVec 32 := Scalar.remsi arg0 c3_i32
  let c1_i32 : BitVec 32 := 1#32
  ![v0.toNat, 1]
def k0_off10 (i : grid0.Coords) : Fin 2 → Nat :=
  let arg0 : BitVec 32 := BitVec.ofNat 32 (i 0).val
  let c3_i32 : BitVec 32 := 3#32
  let v0 : BitVec 32 := Scalar.remsi arg0 c3_i32
  let c2_i32_15 : BitVec 32 := 2#32
  ![v0.toNat, 2]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x16x2048x128 : Shape := ⟨4, ![2, 16, 2048, 128]⟩
abbrev S16x2048x2048 : Shape := ⟨3, ![16, 2048, 2048]⟩
abbrev S2x16x2048x2048 : Shape := ⟨4, ![2, 16, 2048, 2048]⟩
abbrev S_ : Shape := ⟨0, ![]⟩
abbrev S1x16x2048x2048 : Shape := ⟨4, ![1, 16, 2048, 2048]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S16x2048x2048, .i1⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S1x16x2048x2048, .i1⟩
  | .hbm, ⟨9, _⟩ => ⟨S_, .f32⟩
  | .hbm, ⟨10, _⟩ => ⟨S_, .f32⟩
  | .hbm, ⟨11, _⟩ => ⟨S2x16x2048x2048, .i1⟩
  | .hbm, ⟨12, _⟩ => ⟨S2x16x2048x2048, .f32⟩
  | .hbm, ⟨13, _⟩ => ⟨S2x16x2048x2048, .f32⟩
  | .hbm, ⟨14, _⟩ => ⟨S_, .f32⟩
  | .hbm, ⟨15, _⟩ => ⟨S2x16x2048, .f32⟩
  | .hbm, ⟨16, _⟩ => ⟨S_, .f32⟩
  | .hbm, ⟨17, _⟩ => ⟨S2x16x2048, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S1x16x2048x2048, .i1⟩
  | .hbm, ⟨29, _⟩ => ⟨S_, .f32⟩
  | .hbm, ⟨30, _⟩ => ⟨S_, .f32⟩
  | .hbm, ⟨31, _⟩ => ⟨S2x16x2048x2048, .i1⟩
  | .hbm, ⟨32, _⟩ => ⟨S2x16x2048x2048, .f32⟩
  | .hbm, ⟨33, _⟩ => ⟨S2x16x2048x2048, .f32⟩
  | .hbm, ⟨34, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.Value.Soft.lean ====
/- The equation of the two softmaxes over the extended reals: a masked softmax over all columns, divided weight by weight,
   against the softmax over two families of columns that together are the unmasked ones, divided once at the end. -/
module

public import Idealize.ShloMosaic.PureOps.Ideal.Laws

@[expose] public section

noncomputable section

namespace Cert.Soft

open Idealize.ShloMosaic

/-- The larger of two extended reals folded from minus infinity is the least upper bound. -/
theorem fold_max {α : Type*} (s : Finset α) (f : α → EReal) : s.fold max ⊥ f = s.sup f := rfl

/-- The exponential is nowhere negative. -/
theorem exp_nonneg (x : EReal) : 0 ≤ Ideal.exp x := by
  induction x with
  | bot => exact le_rfl
  | top => exact le_top
  | coe r => exact EReal.coe_nonneg.mpr (Real.exp_pos r).le

/-- The exponential of zero is one. -/
theorem exp_zero : Ideal.exp 0 = 1 := by
  show ((Real.exp 0 : ℝ) : EReal) = 1
  rw [Real.exp_zero]; rfl

/-- The quotient by a nonzero number is the product with its inverse. -/
theorem div_of_ne {x y : EReal} (h : y ≠ 0) : Ideal.div x y = x * y⁻¹ := by
  simp only [Ideal.div, h, if_false]

/-- A sum times a nonnegative finite factor is the sum of the products. -/
theorem sum_mul {α : Type*} (s : Finset α) (f : α → EReal) {c : EReal} (h : 0 ≤ c) (ht : c ≠ ⊤) :
    (∑ a ∈ s, f a) * c = ∑ a ∈ s, f a * c := by
  classical
  induction s using Finset.induction_on with
  | empty => simp
  | insert a s ha ih => rw [Finset.sum_insert ha, Finset.sum_insert ha, EReal.right_distrib_of_nonneg_of_ne_top h ht, ih]

/-- The masked softmax of the scores `s` over all columns, applied to the values `v`: a masked column scores minus
    infinity and weighs zero, and every weight is divided by the sum of the exponentials. -/
def masked {α : Type*} [Fintype α] (M : α → Prop) [DecidablePred M] (s v : α → EReal) : EReal :=
  let S := fun a => if M a then s a else ⊥
  let m := max ⊥ (Finset.univ.fold max ⊥ S)
  ∑ a, (if M a then Ideal.div (Ideal.exp (S a - m)) (∑ b, Ideal.exp (S b - m)) else 0) * v a

/-- The attention of two families of scores over two families of values: one common maximum, one common denominator, the
    quotient taken once at the end. -/
def attn {β γ : Type*} [Fintype β] [Fintype γ] (s v : β → EReal) (s' v' : γ → EReal) : EReal :=
  let m := max (Finset.univ.fold max ⊥ s) (Finset.univ.fold max ⊥ s')
  (∑ b, Ideal.exp (s b - m) * v b + ∑ c, Ideal.exp (s' c - m) * v' c)
    * Ideal.div 1 (∑ b, Ideal.exp (s b - m) + ∑ c, Ideal.exp (s' c - m))

section Cover

variable {α β γ : Type*} [Fintype α] [Fintype β] [Fintype γ]
  {M : α → Prop} [DecidablePred M] {B : β → Prop} [DecidablePred B] {C : γ → Prop} [DecidablePred C] {f : β → α} {g : γ → α}

/-- A sum over the unmasked columns is the sum over the two families that cover them once each. -/
theorem sum_cover (hf : ∀ b b', B b → B b' → f b = f b' → b = b') (hg : ∀ c c', C c → C c' → g c = g c' → c = c')
    (hc : ∀ a, M a ↔ (∃ b, B b ∧ f b = a) ∨ ∃ c, C c ∧ g c = a) (hd : ∀ b c, B b → C c → f b ≠ g c) (φ : α → EReal) :
    ∑ a, (if M a then φ a else 0) = ∑ b, (if B b then φ (f b) else 0) + ∑ c, (if C c then φ (g c) else 0) := by
  classical
  rw [← Finset.sum_filter, ← Finset.sum_filter, ← Finset.sum_filter]
  have hu : Finset.univ.filter M = (Finset.univ.filter B).image f ∪ (Finset.univ.filter C).image g := by
    ext a; simp [hc a]
  rw [hu, Finset.sum_union, Finset.sum_image, Finset.sum_image]
  · intro c h c' h'; exact hg c c' (by simpa using h) (by simpa using h')
  · intro b h b' h'; exact hf b b' (by simpa using h) (by simpa using h')
  · rw [Finset.disjoint_left]
    intro a ha hb
    simp only [Finset.mem_image, Finset.mem_filter, Finset.mem_univ, true_and] at ha hb
    obtain ⟨b, hb1, rfl⟩ := ha
    obtain ⟨c, hc1, e⟩ := hb
    exact hd b c hb1 hc1 e.symm

/-- The largest unmasked score is the larger of the largest ones of the two families that cover them. -/
theorem sup_cover (hc : ∀ a, M a ↔ (∃ b, B b ∧ f b = a) ∨ ∃ c, C c ∧ g c = a) (s : α → EReal) :
    (Finset.univ.sup fun a => if M a then s a else ⊥)
      = max (Finset.univ.sup fun b => if B b then s (f b) else ⊥) (Finset.univ.sup fun c => if C c then s (g c) else ⊥) := by
  apply le_antisymm
  · refine Finset.sup_le fun a _ => ?_
    by_cases h : M a
    · rw [if_pos h]
      rcases (hc a).1 h with ⟨b, hb, rfl⟩ | ⟨c, hc', rfl⟩
      · refine le_max_of_le_left ?_
        simpa [hb] using Finset.le_sup (f := fun b => if B b then s (f b) else ⊥) (Finset.mem_univ b)
      · refine le_max_of_le_right ?_
        simpa [hc'] using Finset.le_sup (f := fun c => if C c then s (g c) else ⊥) (Finset.mem_univ c)
    · rw [if_neg h]; exact bot_le
  · refine max_le (Finset.sup_le fun b _ => ?_) (Finset.sup_le fun c _ => ?_)
    · by_cases h : B b
      · have hm : M (f b) := (hc _).2 (.inl ⟨b, h, rfl⟩)
        simpa [h, hm] using Finset.le_sup (f := fun a => if M a then s a else ⊥) (Finset.mem_univ (f b))
      · rw [if_neg h]; exact bot_le
    · by_cases h : C c
      · have hm : M (g c) := (hc _).2 (.inr ⟨c, h, rfl⟩)
        simpa [h, hm] using Finset.le_sup (f := fun a => if M a then s a else ⊥) (Finset.mem_univ (g c))
      · rw [if_neg h]; exact bot_le

/-- A masked column's exponential is zero. -/
theorem exp_masked (p : Prop) [Decidable p] (x m : EReal) :
    Ideal.exp ((if p then x else ⊥) - m) = if p then Ideal.exp (x - m) else 0 := by
  split
  · rfl
  · rw [EReal.bot_sub]; rfl

/-- A chosen factor times a number. -/
theorem ite_zero_mul (p : Prop) [Decidable p] (x y : EReal) : (if p then x else 0) * y = if p then x * y else 0 := by
  split
  · rfl
  · exact zero_mul y

/-- The masked softmax is the attention over the two families that cover the unmasked columns, where every score is a real
    number and some column is unmasked. -/
theorem masked_eq_attn (hf : ∀ b b', B b → B b' → f b = f b' → b = b') (hg : ∀ c c', C c → C c' → g c = g c' → c = c')
    (hc : ∀ a, M a ↔ (∃ b, B b ∧ f b = a) ∨ ∃ c, C c ∧ g c = a) (hd : ∀ b c, B b → C c → f b ≠ g c) (s v : α → EReal)
    (hs : ∀ a, ∃ r : ℝ, s a = r) (hne : ∃ a, M a) :
    masked M s v = attn (fun b => if B b then s (f b) else ⊥) (fun b => v (f b))
      (fun c => if C c then s (g c) else ⊥) (fun c => v (g c)) := by
  simp only [masked, attn, fold_max, ← sup_cover hc s, bot_le, max_eq_right, exp_masked, ite_zero_mul]
  generalize hm : (Finset.univ.sup fun a => if M a then s a else ⊥) = m
  rw [← sum_cover hf hg hc hd (fun a => Ideal.exp (s a - m)), ← sum_cover hf hg hc hd (fun a => Ideal.exp (s a - m) * v a)]
  -- the maximum is attained at an unmasked column, where the exponential is one
  obtain ⟨a₀, h₀⟩ := hne
  obtain ⟨a, -, ha⟩ := Finset.exists_mem_eq_sup Finset.univ ⟨a₀, Finset.mem_univ _⟩ fun a => if M a then s a else ⊥
  rw [hm] at ha
  have hM : M a := by
    by_contra h
    rw [if_neg h] at ha
    have h1 := Finset.le_sup (f := fun a => if M a then s a else ⊥) (Finset.mem_univ a₀)
    obtain ⟨r, hr⟩ := hs a₀
    rw [hm, ha] at h1
    simp only [if_pos h₀, hr] at h1
    exact absurd h1 (not_le.2 (EReal.bot_lt_coe r))
  rw [if_pos hM] at ha
  have h1 : (if M a then Ideal.exp (s a - m) else 0) = 1 := by
    obtain ⟨r, hr⟩ := hs a
    rw [if_pos hM, ha, hr, ← EReal.coe_sub, sub_self]
    exact exp_zero
  generalize hD : (∑ a, if M a then Ideal.exp (s a - m) else 0) = D
  have h0 : ∀ a, 0 ≤ (if M a then Ideal.exp (s a - m) else (0 : EReal)) := fun a => by
    split
    · exact exp_nonneg _
    · exact le_rfl
  have hD1 : 1 ≤ D := by
    rw [← hD, ← h1]
    exact Finset.single_le_sum (f := fun a => if M a then Ideal.exp (s a - m) else (0 : EReal)) (fun a _ => h0 a)
      (Finset.mem_univ a)
  have hpos : 0 < D := lt_of_lt_of_le zero_lt_one hD1
  rw [div_of_ne hpos.ne', one_mul, sum_mul _ _ (EReal.inv_nonneg_of_nonneg hpos.le) (EReal.inv_lt_top D).ne]
  refine Finset.sum_congr rfl fun a _ => ?_
  rw [div_of_ne hpos.ne', ite_zero_mul]
  split
  · exact mul_right_comm ..
  · exact (zero_mul _).symm

end Cover

/-- With no second family, the attention is that of the first alone. -/
theorem attn_zero {β : Type*} [Fintype β] (s v : β → EReal) (s' v' : Fin 0 → EReal) :
    attn s v s' v' =
      (∑ b, Ideal.exp (s b - Finset.univ.fold max ⊥ s) * v b) * Ideal.div 1 (∑ b, Ideal.exp (s b - Finset.univ.fold max ⊥ s)) := by
  simp [attn]

end Cert.Soft

end
-- ==== Proof.Value.Tile.lean ====
/- What one tile of the kernel computes: the scores of 128 query rows against their own 128 keys and against the first
   `w` gathered stripe rows, and the attention of those scores over the two value blocks. Each tower of vector operations
   is given a name, stated for any stripe width, and read at an index as a formula over the extended reals. -/
module

public import proofs.«01_k».proof.Proof.Gen.KernelIdeal.Skeleton
public import Idealize.ShloMosaic.Lib.Pointwise
public import proofs.«01_k».proof.Proof.Value.Soft

@[expose] public section

set_option maxRecDepth 16384

noncomputable section

namespace Cert.KernelIdeal.Tile

open Cert.KernelIdeal Cert.KernelIdeal.Gen
open Idealize.ShloMosaic

variable {F : FTy → Type} [FloatOps F]

/-- The `n × 128` matrix shape. -/
abbrev SW (w : ℕ) : Shape := ⟨2, ![128, w]⟩
/-- A block of `w` rows of one batch row. -/
abbrev SK (w : ℕ) : Shape := ⟨3, ![1, w, 128]⟩
/-- The same block without its leading unit axis. -/
abbrev SM (w : ℕ) : Shape := ⟨2, ![w, 128]⟩

/-- The scores of a tile against `w` keys, before the bias: the scaled queries times the keys. -/
def dots (w : ℕ) (d : DotDims S128x128 (SM w) (SW w)) (hk : (SK w).ShapeCasts (SM w))
    (q : Vec F S1x128x128 .f32) (k : Vec F (SK w) .f32) : FVec F (SW w) .f32 :=
  matmul d none (mulf (shapeCast S128x128 q shapeCasts_S1x128x128_S128x128) (broadcast S128x128 (Scalar.ofBits .f32 0x3DB504F3#32)))
    (shapeCast (SM w) k hk) (constant (SW w) .f32 0x00000000#32)

/-- The scores against the tile's own keys, the local bias added. -/
def scoreLoc (b : Vec F S128x128 .f32) (q k : Vec F S1x128x128 .f32) : FVec F S128x128 .f32 :=
  addf (dots 128 dot_S128x128_S128x128_S128x128_1_1_0_0_n_n shapeCasts_S1x128x128_S128x128 q k) b

/-- The scores against the stripe rows, one row of the stripe bias added. -/
def scoreStr (w : ℕ) (d : DotDims S128x128 (SM w) (SW w)) (hk : (SK w).ShapeCasts (SM w))
    (hb : (⟨2, ![1, w]⟩ : Shape).Broadcasts (SW w)) (b : Vec F ⟨2, ![1, w]⟩ .f32)
    (q : Vec F S1x128x128 .f32) (k : Vec F (SK w) .f32) : FVec F (SW w) .f32 :=
  addf (dots w d hk q k) (broadcastTo (SW w) b hb)

/-- The row maxima of a score matrix, as a column. -/
def colMax (w : ℕ) (hr : (SW w).Reduces [1] S128) (s : FVec F (SW w) .f32) : FVec F S128x1 .f32 :=
  shapeCast S128x1 (multiReduction .maximumf [1] S128 s 0xFF800000#32 hr (.inl rfl) rfl) shapeCasts_S128_S128x1

/-- The row sums of a matrix, as a column. -/
def colSum (w : ℕ) (hr : (SW w).Reduces [1] S128) (s : FVec F (SW w) .f32) : FVec F S128x1 .f32 :=
  shapeCast S128x1 (multiReduction .add [1] S128 s 0x00000000#32 hr (.inl rfl) rfl) shapeCasts_S128_S128x1

/-- The weights: the exponential of the scores less their row's maximum. -/
def weights (w : ℕ) (hb : S128x1.Broadcasts (SW w)) (s : FVec F (SW w) .f32) (m : FVec F S128x1 .f32) : FVec F (SW w) .f32 :=
  exp (subf s (broadcastTo (SW w) m hb))

/-- The weights times the values. -/
def mix (w : ℕ) (d : DotDims (SW w) (SM w) S128x128) (e : FVec F (SW w) .f32) (v : FVec F (SM w) .bf16) : FVec F S128x128 .f32 :=
  matmul d none (truncf .bf16 e bitsLt_bf16_f32) v (constant S128x128 .f32 0x00000000#32)

/-- A numerator over its denominator column, as the block the kernel stores. -/
def normed (num : FVec F S128x128 .f32) (den : FVec F S128x1 .f32) : FVec F S1x1x128x128 .f32 :=
  shapeCast S1x1x128x128
    (mulf num (broadcastTo S128x128 (divf (broadcast S128x1 (Scalar.ofBits .f32 0x3F800000#32)) den) broadcasts_S128x1_S128x128))
    shapeCasts_S128x128_S1x1x128x128

/-- The tile's own values, narrowed. -/
def ownVals (v : Vec F S1x128x128 .f32) : FVec F S128x128 .bf16 :=
  truncf .bf16 (shapeCast S128x128 v shapeCasts_S1x128x128_S128x128) bitsLt_bf16_f32

/-- A tile with no stripe. -/
def tileOwn (sl : FVec F S128x128 .f32) (v : Vec F S1x128x128 .f32) : FVec F S1x1x128x128 .f32 :=
  let e := weights 128 broadcasts_S128x1_S128x128 sl (colMax 128 reduces_S128x128_S128 sl)
  normed (mix 128 dot_S128x128_S128x128_S128x128_1_0_0_1_n_n e (ownVals v)) (colSum 128 reduces_S128x128_S128 e)

/-- A tile with `w` stripe rows. -/
def tileStr (w : ℕ) (hr : (SW w).Reduces [1] S128) (hb : S128x1.Broadcasts (SW w)) (d : DotDims (SW w) (SM w) S128x128)
    (hk : (SK w).ShapeCasts (SM w)) (sl : FVec F S128x128 .f32) (ss : FVec F (SW w) .f32) (v : Vec F S1x128x128 .f32)
    (vs : Vec F (SK w) .bf16) : FVec F S1x1x128x128 .f32 :=
  let m := maximumf (colMax 128 reduces_S128x128_S128 sl) (colMax w hr ss)
  let e := weights 128 broadcasts_S128x1_S128x128 sl m
  let f := weights w hb ss m
  normed (addf (mix 128 dot_S128x128_S128x128_S128x128_1_0_0_1_n_n e (ownVals v)) (mix w d f (shapeCast (SM w) vs hk)))
    (addf (colSum 128 reduces_S128x128_S128 e) (colSum w hr f))

/-- The word the maxima start from is minus infinity. -/
theorem ofBits_negInf : Ideal.ofBits .f32 4286578688#32 = ⊥ := by simp [Ideal.ofBits, Ideal.ieee]

/-- The scale: one over the square root of 128, as the program's word has it. -/
def scale : EReal := Ideal.ofBits .f32 1035273459#32

/-- A local score at an index. -/
theorem scoreLoc_at (b : Vec Ideal S128x128 .f32) (q k : Vec Ideal S1x128x128 .f32) (i j : Fin 128) :
    scoreLoc (F := Ideal) b q k (ix2 i j) = (∑ x : Fin 128, q (ix3 0 i x) * scale * k (ix3 0 j x)) + b (ix2 i j) := by
  pointwise [scoreLoc, dots]
  rfl

section Stripe

/-- What a stripe score is at an index, for a width `w`. -/
def StrAt (w : ℕ) (d : DotDims S128x128 (SM w) (SW w)) (hk : (SK w).ShapeCasts (SM w))
    (hb : (⟨2, ![1, w]⟩ : Shape).Broadcasts (SW w)) : Prop :=
  ∀ (b : Vec Ideal ⟨2, ![1, w]⟩ .f32) (q : Vec Ideal S1x128x128 .f32) (k : Vec Ideal (SK w) .f32) (i : Fin 128) (j : Fin w),
    scoreStr (F := Ideal) w d hk hb b q k (ix2 i j) = (∑ x : Fin 128, q (ix3 0 i x) * scale * k (ix3 0 j x)) + b (ix2 0 j)

theorem str_128 : StrAt 128 dot_S128x128_S128x128_S128x128_1_1_0_0_n_n shapeCasts_S1x128x128_S128x128 broadcasts_S1x128_S128x128 := by
  intro b q k i j
  pointwise [scoreStr, dots]
  rfl
theorem str_256 : StrAt 256 dot_S128x128_S256x128_S128x256_1_1_0_0_n_n shapeCasts_S1x256x128_S256x128 broadcasts_S1x256_S128x256 := by
  intro b q k i j
  pointwise [scoreStr, dots]
  rfl
theorem str_384 : StrAt 384 dot_S128x128_S384x128_S128x384_1_1_0_0_n_n shapeCasts_S1x384x128_S384x128 broadcasts_S1x384_S128x384 := by
  intro b q k i j
  pointwise [scoreStr, dots]
  rfl
theorem str_512 : StrAt 512 dot_S128x128_S512x128_S128x512_1_1_0_0_n_n shapeCasts_S1x512x128_S512x128 broadcasts_S1x512_S128x512 := by
  intro b q k i j
  pointwise [scoreStr, dots]
  rfl

end Stripe

section Attention

open Cert.Soft

/-- A tile with no stripe, at an index. -/
theorem own_at (sl : FVec Ideal S128x128 .f32) (v : Vec Ideal S1x128x128 .f32) (s' v' : Fin 0 → EReal) (i d : Fin 128) :
    tileOwn (F := Ideal) sl v (ix4 0 0 i d) = attn (fun x : Fin 128 => sl (ix2 i x)) (fun x => v (ix3 0 x d)) s' v' := by
  pointwise [tileOwn, weights, colMax, colSum, mix, normed, ownVals]
  simp only [attn_zero, ofBits_negInf]

/-- What a tile with `w` stripe rows is at an index. -/
def TileAt (w : ℕ) (hr : (SW w).Reduces [1] S128) (hb : S128x1.Broadcasts (SW w)) (d : DotDims (SW w) (SM w) S128x128)
    (hk : (SK w).ShapeCasts (SM w)) : Prop :=
  ∀ (sl : FVec Ideal S128x128 .f32) (ss : FVec Ideal (SW w) .f32) (v : Vec Ideal S1x128x128 .f32)
    (vs : Vec Ideal (SK w) .bf16) (i c : Fin 128),
    tileStr (F := Ideal) w hr hb d hk sl ss v vs (ix4 0 0 i c)
      = attn (fun x : Fin 128 => sl (ix2 i x)) (fun x => v (ix3 0 x c)) (fun x : Fin w => ss (ix2 i x)) (fun x => vs (ix3 0 x c))

theorem tile_128 : TileAt 128 reduces_S128x128_S128 broadcasts_S128x1_S128x128 dot_S128x128_S128x128_S128x128_1_0_0_1_n_n
    shapeCasts_S1x128x128_S128x128 := by
  intro sl ss v vs i c
  pointwise [tileStr, weights, colMax, colSum, mix, normed, ownVals]
  simp only [attn, ofBits_negInf]
theorem tile_256 : TileAt 256 reduces_S128x256_S128 broadcasts_S128x1_S128x256 dot_S128x256_S256x128_S128x128_1_0_0_1_n_n
    shapeCasts_S1x256x128_S256x128 := by
  intro sl ss v vs i c
  pointwise [tileStr, weights, colMax, colSum, mix, normed, ownVals]
  simp only [attn, ofBits_negInf]
theorem tile_384 : TileAt 384 reduces_S128x384_S128 broadcasts_S128x1_S128x384 dot_S128x384_S384x128_S128x128_1_0_0_1_n_n
    shapeCasts_S1x384x128_S384x128 := by
  intro sl ss v vs i c
  pointwise [tileStr, weights, colMax, colSum, mix, normed, ownVals]
  simp only [attn, ofBits_negInf]
theorem tile_512 : TileAt 512 reduces_S128x512_S128 broadcasts_S128x1_S128x512 dot_S128x512_S512x128_S128x128_1_0_0_1_n_n
    shapeCasts_S1x512x128_S512x128 := by
  intro sl ss v vs i c
  pointwise [tileStr, weights, colMax, colSum, mix, normed, ownVals]
  simp only [attn, ofBits_negInf]

end Attention

end Cert.KernelIdeal.Tile

end
-- ==== Proof.Ideal.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- the rectangles have long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points before point 14 — decided over the grid. -/
theorem hcond0_1 : ∀ t : Fin cfg0.N, cond0_1 (grid0.coords t) ↔ t.val < 14 :=
  (by decide +kernel : ∀ t : Fin grid0.N, cond0_1 (grid0.coords t) ↔ t.val < 14)

/-! ## The kernel body on any staging memrefs: a subtype the run finds -/

/-- One staging buffer of output window 2, through which its contents are stated (`View.read_writes_of_cover`: the
    choice does not matter). -/
abbrev VO0_2 : View sig .tc .vmem S1x2x2048x128 .f32 := (Memref.whole cc0_stg2_0 : Memref sig .tc .vmem S1x2x2048x128 .f32).view
/-- Each window's current staging memref at point `t`, spelled as the pipeline passes it (`bodyAt0`), and its wholeness. -/
abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x2048x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S3x2x2048x128 .f32 := Memref.whole cc0_scratch0
abbrev scM0_1 : Memref sig .tc .vmem S3x2x2048x128 .f32 := Memref.whole cc0_scratch1
abbrev scM0_2 : Memref sig .tc .vmem S3x2x2048x128 .f32 := Memref.whole cc0_scratch2
abbrev scM0_3 : Memref sig .tc .vmem S2x512x128 .f32 := Memref.whole cc0_scratch3
abbrev scM0_4 : Memref sig .tc .vmem S2x512x128 .bf16 := Memref.whole cc0_scratch4
/-- The operands left in HBM that the body copies into scratch itself, whole. -/
abbrev hbM0_0 : Memref sig .tc .hbm S16x2x2048x128 .f32 := Memref.whole main_call0_v0
abbrev hbM0_1 : Memref sig .tc .hbm S16x2x2048x128 .f32 := Memref.whole main_call0_v1
abbrev hbM0_2 : Memref sig .tc .hbm S16x2x2048x128 .f32 := Memref.whole main_call0_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 9 → SemLoc sig := fun j => (![SemLoc.dma 4, SemLoc.dma 7, SemLoc.dma 10, SemLoc.dma 5, SemLoc.dma 8, SemLoc.dma 11, SemLoc.dma 6, SemLoc.dma 9, SemLoc.dma 12] : Fin 9 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 7) 0 ∗ semVal ((c : Thread nD τ), SemLoc.dma 10) 0 ∗ semVal ((c : Thread nD τ), SemLoc.dma 5) 0 ∗ semVal ((c : Thread nD τ), SemLoc.dma 8) 0 ∗ semVal ((c : Thread nD τ), SemLoc.dma 11) 0 ∗ semVal ((c : Thread nD τ), SemLoc.dma 6) 0 ∗ semVal ((c : Thread nD τ), SemLoc.dma 9) 0 ∗ semVal ((c : Thread nD τ), SemLoc.dma 12) 0) := by
  rw [Pipeline.ownSems0_eq_of_list c osem0 [0, 1, 2, 3, 4, 5, 6, 7, 8] (by decide) (by decide)]; rfl
/-- The HBM operands the body moves, as references: unscoped, no window's array (`Pipeline.restRefs`). -/
def H0 : Finset (Ref sig .tc) := {main_call0_v0, main_call0_v1, main_call0_v2}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_call0_v0) ∗ hbPt0 c hbM0_1 (V m c main_call0_v1) ∗ hbPt0 c hbM0_2 (V m c main_call0_v2)) := by
  rw [BI.bigSep_eq_bigSepL_of_eq [main_call0_v0, main_call0_v1, main_call0_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 4) 0 ∗ semVal ((c : Thread nD τ), SemLoc.dma 7) 0 ∗ semVal ((c : Thread nD τ), SemLoc.dma 10) 0 ∗ semVal ((c : Thread nD τ), SemLoc.dma 5) 0 ∗ semVal ((c : Thread nD τ), SemLoc.dma 8) 0 ∗ semVal ((c : Thread nD τ), SemLoc.dma 11) 0 ∗ semVal ((c : Thread nD τ), SemLoc.dma 6) 0 ∗ semVal ((c : Thread nD τ), SemLoc.dma 9) 0 ∗ semVal ((c : Thread nD τ), SemLoc.dma 12) 0) ∗ iprop(hbPt0 c hbM0_0 (V m c main_call0_v0) ∗ hbPt0 c hbM0_1 (V m c main_call0_v1) ∗ hbPt0 c hbM0_2 (V m c main_call0_v2))) := by
  rw [Pipeline.ΦD_eq, scopedRest0_eq, ownSems00_eq, hbmPts0_eq]; simp only [scM0_0, scM0_1, scM0_2, scM0_3, scM0_4, owns_whole]; try rfl

/-! ## Ring 0 of kernel 0: `main_call0_v0` streamed through the 3 slots of `cc0_scratch0` on the cells of `cc0_scratch5`, 2 block ahead, in 16 steps -/

instance : NeZero grid0.N := ⟨by rw [N_0]; decide⟩
theorem inb_slot0_0 (s : Fin 3) : ∀ a, (![s.val, 0, 0, 0] : Fin 4 → Nat) a + S1x2x2048x128.size a ≤ S3x2x2048x128.size a := by
  have := s.isLt; intro a; fin_cases a <;> simp <;> omega
theorem inb_src0_0 (b : Fin 16) : ∀ a, (![1 * b.val, 0, 0, 0] : Fin 4 → Nat) a + S1x2x2048x128.size a ≤ S16x2x2048x128.size a := by
  have := b.isLt; intro a; fin_cases a <;> simp <;> omega
theorem inb_cell0_0 (s : Fin 3) : ∀ a, (![s.val, 0] : Fin 2 → Nat) a + S1x1.size a ≤ S3x3.size a := by
  have := s.isLt; intro a; fin_cases a <;> simp <;> omega
/-- Slot `s` of the ring, spelt as the body's transfers spell their destination, at offsets in `s`. -/
def rslot0_0 (s : Fin 3) : Memref sig .tc .vmem S2x2048x128 .f32 :=
  (scM0_0.slice (Rect.unit (s := S3x2x2048x128) ![s.val, 0, 0, 0] S1x2x2048x128.size (inb_slot0_0 s)) (fun _ => rfl)).squeeze S2x2048x128 squeezes_S1x2x2048x128_S2x2048x128
/-- Block `b` of the operand (the block step `b` waits), spelt as the transfers spell their source, at offsets in `b`. -/
def srcB0_0 (b : Fin 16) : Memref sig .tc .hbm S2x2048x128 .f32 :=
  (hbM0_0.slice (Rect.unit (s := S16x2x2048x128) ![1 * b.val, 0, 0, 0] S1x2x2048x128.size (inb_src0_0 b)) (fun _ => rfl)).squeeze S2x2048x128 squeezes_S1x2x2048x128_S2x2048x128
/-- Cell `s` of `cc0_scratch5`, spelt as the body spells a cell; its number in the pool. -/
def cellA0_0 (s : Fin 3) : DmaSems sig S_ := (cc0_scratch5.slice (Rect.unit (s := S3x3) ![s.val, 0] S1x1.size (inb_cell0_0 s))).squeeze S_ squeezes_S1x1_S_
abbrev cellR0_0 (s : Fin 3) : SemLoc sig := SemLoc.dma (cellA0_0 s).sem
theorem cellR0_0_0 : cellR0_0 0 = SemLoc.dma 4 := by decide
theorem cellR0_0_1 : cellR0_0 1 = SemLoc.dma 7 := by decide
theorem cellR0_0_2 : cellR0_0 2 = SemLoc.dma 10 := by decide

section Ring0_0
variable (c : Dev nD) (W : HbBuf0 (F := F) c hbM0_0)
/-- The operand is lent BY SHARE, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 16) : sProp 𝕄 := (srcB0_0 b).view.loc (c : Thread nD τ) ↦[(srcB0_0 b).view.set]{qs0_0 s} W
/-- (a `def`: no run reads this rest, and folded it stays out of the executor's table of held buffers) -/
def restP0_0 (s : Fin 3) (b : Fin 16) : sProp 𝕄 := ((c : Thread nD τ).loc main_call0_v0) ↦[Finset.univ \ (srcB0_0 b).view.set]{qs0_0 s} W
abbrev wholeP0_0 (s : Fin 3) : sProp 𝕄 := ((c : Thread nD τ).loc main_call0_v0) ↦[Finset.univ]{qs0_0 s} W
abbrev landed0_0 (s : Fin 3) (b : Fin 16) (f : HbBuf0 (F := F) c (rslot0_0 s)) : HbBuf0 (F := F) c (rslot0_0 s) :=
  (rslot0_0 s).view.writes (Elt F) f [⟨Rect.whole S2x2048x128, ReadAs.same.apply ((srcB0_0 b).view.read (Elt F) W)⟩]
abbrev flightP0_0 (s : Fin 3) (b : Fin 16) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 16) (f : HbBuf0 (F := F) c (rslot0_0 s)) : sProp 𝕄 := iprop(flightP0_0 c W s b f ∗ restP0_0 c W s b)
abbrev noHome0_0 (b : Fin 16) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 4) 0 := congrArg (fun x => (semVal ((c : Thread nD τ), x) 0 : sProp 𝕄)) cellR0_0_0
omit [FloatOps F] in
theorem cellP0_0_1 : cellP0_0 (F := F) c 1 = semVal ((c : Thread nD τ), SemLoc.dma 7) 0 := congrArg (fun x => (semVal ((c : Thread nD τ), x) 0 : sProp 𝕄)) cellR0_0_1
omit [FloatOps F] in
theorem cellP0_0_2 : cellP0_0 (F := F) c 2 = semVal ((c : Thread nD τ), SemLoc.dma 10) 0 := congrArg (fun x => (semVal ((c : Thread nD τ), x) 0 : sProp 𝕄)) cellR0_0_2
end Ring0_0

/-! ### The slots, disjoint and covering the scratch (Lib/Ring.lean `lead_disjoint` / `lead_cover`) -/

abbrev slotSet0_0 (s : Fin 3) : Finset S3x2x2048x128.Idx := (Rect.unit (s := S3x2x2048x128) ![s.val, 0, 0, 0] S1x2x2048x128.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x2x2048x128) (0 : Fin 4) 1 (fun s : Fin 3 => (![s.val, 0, 0, 0] : Fin 4 → Nat)) S1x2x2048x128.size inb_slot0_0 (fun s => by simp) rfl s s' h
theorem slots0_0_cover : Finset.univ.biUnion slotSet0_0 = Finset.univ :=
  Ring.lead_cover (s := S3x2x2048x128) (0 : Fin 4) 1 (fun s : Fin 3 => (![s.val, 0, 0, 0] : Fin 4 → Nat)) S1x2x2048x128.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 16) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ (∃ f, slotP0_0 (F := F) c 1 f) ∗ ∃ f, slotP0_0 (F := F) c 2 f) : sProp 𝕄) := by
  simp only [scM0_0, owns_whole]
  exact Ring.slots3_split (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 4) 0 ∗ semVal ((c : Thread nD τ), SemLoc.dma 7) 0 ∗ semVal ((c : Thread nD τ), SemLoc.dma 10) 0) ∗ hbPt0 c hbM0_0 (V m c main_call0_v0))
      ⊢ ringAt0_0 c (V m c main_call0_v0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_call0_v0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_0_out (c : Dev nD) :
    ringAt0_0 c (V m c main_call0_v0) 16
      ⊢ iprop((∃ d, owns (c : Thread nD τ) scM0_0 fullShare d) ∗ (semVal ((c : Thread nD τ), SemLoc.dma 4) 0 ∗ semVal ((c : Thread nD τ), SemLoc.dma 7) 0 ∗ semVal ((c : Thread nD τ), SemLoc.dma 10) 0) ∗ hbPt0 c hbM0_0 (V m c main_call0_v0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_call0_v0)).2; isplitl [HW0]; · iexact HW0
    isplitl [HW1]; · iexact HW1
    iexact HW2

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 2 < 16 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ 16 ≤ t.val + 2 ∧ t.val < 16 ∧ (t.val + 1) = t.val + 1 := by decide +kernel
set_option synthInstance.maxSize 4096 in
theorem coff0_0_1 : ∀ t : Fin grid0.N, cond0_0 (grid0.coords t) → cond0_1 (grid0.coords t) → (![0, 0, 0, 0] : Fin 4 → Nat) = ![(Ring.sl 3 t.val).val, 0, 0, 0] := by decide +kernel
@[sl_canon] theorem canon0_0_1 (t : Fin grid0.N) (h0 : cond0_0 (grid0.coords t)) (h1 : cond0_1 (grid0.coords t)) :
    (scM0_0.slice (Rect.unit (s := S3x2x2048x128) ![0, 0, 0, 0] S1x2x2048x128.size inb_S3x2x2048x128_S1x2x2048x128_0_0_0_0) (fun _ => rfl)).squeeze S2x2048x128 squeezes_S1x2x2048x128_S2x2048x128 = rslot0_0 (Ring.sl 3 t.val) :=
  congrArg (fun M : Memref sig .tc .vmem S1x2x2048x128 .f32 => M.squeeze S2x2048x128 squeezes_S1x2x2048x128_S2x2048x128) (Memref.slice_unit_congr _ (coff0_0_1 t h0 h1) _ _ (fun _ => rfl) (fun _ => rfl))
set_option synthInstance.maxSize 4096 in
theorem coff0_0_2 : ∀ t : Fin grid0.N, cond0_0 (grid0.coords t) → cond0_1 (grid0.coords t) → (![0, 0] : Fin 2 → Nat) = ![(Ring.sl 3 t.val).val, 0] := by decide +kernel
@[sl_canon] theorem canon0_0_2 (t : Fin grid0.N) (h0 : cond0_0 (grid0.coords t)) (h1 : cond0_1 (grid0.coords t)) :
    (cc0_scratch5.slice (Rect.unit (s := S3x3) ![0, 0] S1x1.size inb_S3x3_S1x1_0_0)).squeeze S_ squeezes_S1x1_S_ = cellA0_0 (Ring.sl 3 t.val) :=
  congrArg (fun A : DmaSems sig S1x1 => A.squeeze S_ squeezes_S1x1_S_) (SemArray.slice_unit_congr _ (coff0_0_2 t h0 h1) _ _)
set_option synthInstance.maxSize 4096 in
theorem coff0_0_3 : ∀ t : Fin grid0.N, cond0_0 (grid0.coords t) → cond0_1 (grid0.coords t) → (![0, 0, 0, 0] : Fin 4 → Nat) = ![1 * (Ring.bk 16 t.val).val, 0, 0, 0] := by decide +kernel
@[sl_canon] theorem canon0_0_3 (t : Fin grid0.N) (h0 : cond0_0 (grid0.coords t)) (h1 : cond0_1 (grid0.coords t)) :
    (hbM0_0.slice (Rect.unit (s := S16x2x2048x128) ![0, 0, 0, 0] S1x2x2048x128.size inb_S16x2x2048x128_S1x2x2048x128_0_0_0_0) (fun _ => rfl)).squeeze S2x2048x128 squeezes_S1x2x2048x128_S2x2048x128 = srcB0_0 (Ring.bk 16 t.val) :=
  congrArg (fun M : Memref sig .tc .hbm S1x2x2048x128 .f32 => M.squeeze S2x2048x128 squeezes_S1x2x2048x128_S2x2048x128) (Memref.slice_unit_congr _ (coff0_0_3 t h0 h1) _ _ (fun _ => rfl) (fun _ => rfl))
set_option synthInstance.maxSize 4096 in
theorem coff0_0_4 : ∀ t : Fin grid0.N, cond0_0 (grid0.coords t) → cond0_1 (grid0.coords t) → (![1, 0, 0, 0] : Fin 4 → Nat) = ![(Ring.sl 3 (t.val + 1)).val, 0, 0, 0] := by decide +kernel
@[sl_canon] theorem canon0_0_4 (t : Fin grid0.N) (h0 : cond0_0 (grid0.coords t)) (h1 : cond0_1 (grid0.coords t)) :
    (scM0_0.slice (Rect.unit (s := S3x2x2048x128) ![1, 0, 0, 0] S1x2x2048x128.size inb_S3x2x2048x128_S1x2x2048x128_1_0_0_0) (fun _ => rfl)).squeeze S2x2048x128 squeezes_S1x2x2048x128_S2x2048x128 = rslot0_0 (Ring.sl 3 (t.val + 1)) :=
  congrArg (fun M : Memref sig .tc .vmem S1x2x2048x128 .f32 => M.squeeze S2x2048x128 squeezes_S1x2x2048x128_S2x2048x128) (Memref.slice_unit_congr _ (coff0_0_4 t h0 h1) _ _ (fun _ => rfl) (fun _ => rfl))
set_option synthInstance.maxSize 4096 in
theorem coff0_0_5 : ∀ t : Fin grid0.N, cond0_0 (grid0.coords t) → cond0_1 (grid0.coords t) → (![1, 0] : Fin 2 → Nat) = ![(Ring.sl 3 (t.val + 1)).val, 0] := by decide +kernel
@[sl_canon] theorem canon0_0_5 (t : Fin grid0.N) (h0 : cond0_0 (grid0.coords t)) (h1 : cond0_1 (grid0.coords t)) :
    (cc0_scratch5.slice (Rect.unit (s := S3x3) ![1, 0] S1x1.size inb_S3x3_S1x1_1_0)).squeeze S_ squeezes_S1x1_S_ = cellA0_0 (Ring.sl 3 (t.val + 1)) :=
  congrArg (fun A : DmaSems sig S1x1 => A.squeeze S_ squeezes_S1x1_S_) (SemArray.slice_unit_congr _ (coff0_0_5 t h0 h1) _ _)
set_option synthInstance.maxSize 4096 in
theorem coff0_0_6 : ∀ t : Fin grid0.N, cond0_0 (grid0.coords t) → cond0_1 (grid0.coords t) → (![1, 0, 0, 0] : Fin 4 → Nat) = ![1 * (Ring.bk 16 (t.val + 1)).val, 0, 0, 0] := by decide +kernel
@[sl_canon] theorem canon0_0_6 (t : Fin grid0.N) (h0 : cond0_0 (grid0.coords t)) (h1 : cond0_1 (grid0.coords t)) :
    (hbM0_0.slice (Rect.unit (s := S16x2x2048x128) ![1, 0, 0, 0] S1x2x2048x128.size inb_S16x2x2048x128_S1x2x2048x128_1_0_0_0) (fun _ => rfl)).squeeze S2x2048x128 squeezes_S1x2x2048x128_S2x2048x128 = srcB0_0 (Ring.bk 16 (t.val + 1)) :=
  congrArg (fun M : Memref sig .tc .hbm S1x2x2048x128 .f32 => M.squeeze S2x2048x128 squeezes_S1x2x2048x128_S2x2048x128) (Memref.slice_unit_congr _ (coff0_0_6 t h0 h1) _ _ (fun _ => rfl) (fun _ => rfl))
set_option synthInstance.maxSize 4096 in
theorem coff0_0_7 : ∀ t : Fin grid0.N, k0_off2 (grid0.coords t) = ![(Ring.sl 3 (t.val + 2)).val, 0, 0, 0] := by decide +kernel
@[sl_canon] theorem canon0_0_7 (t : Fin grid0.N) (h1 : cond0_1 (grid0.coords t)) :
    (scM0_0.slice (Rect.unit (s := S3x2x2048x128) (k0_off2 (grid0.coords t)) S1x2x2048x128.size (k0_off2_inb (grid0.coords t) h1)) (fun _ => rfl)).squeeze S2x2048x128 squeezes_S1x2x2048x128_S2x2048x128 = rslot0_0 (Ring.sl 3 (t.val + 2)) :=
  congrArg (fun M : Memref sig .tc .vmem S1x2x2048x128 .f32 => M.squeeze S2x2048x128 squeezes_S1x2x2048x128_S2x2048x128) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val, 0] := by decide +kernel
@[sl_canon] theorem canon0_0_8 (t : Fin grid0.N) (h1 : cond0_1 (grid0.coords t)) :
    (cc0_scratch5.slice (Rect.unit (s := S3x3) (k0_off1 (grid0.coords t)) S1x1.size (k0_off1_inb (grid0.coords t) h1))).squeeze S_ squeezes_S1x1_S_ = cellA0_0 (Ring.sl 3 (t.val + 2)) :=
  congrArg (fun A : DmaSems sig S1x1 => A.squeeze S_ squeezes_S1x1_S_) (SemArray.slice_unit_congr _ (coff0_0_8 t ) _ _)
set_option synthInstance.maxSize 4096 in
theorem coff0_0_9 : ∀ t : Fin grid0.N, cond0_0 (grid0.coords t) → cond0_1 (grid0.coords t) → k0_off3 (grid0.coords t) = ![1 * (Ring.bk 16 (t.val + 2)).val, 0, 0, 0] := by decide +kernel
@[sl_canon] theorem canon0_0_9 (t : Fin grid0.N) (h0 : cond0_0 (grid0.coords t)) (h1 : cond0_1 (grid0.coords t)) :
    (hbM0_0.slice (Rect.unit (s := S16x2x2048x128) (k0_off3 (grid0.coords t)) S1x2x2048x128.size (k0_off3_inb (grid0.coords t) h1)) (fun _ => rfl)).squeeze S2x2048x128 squeezes_S1x2x2048x128_S2x2048x128 = srcB0_0 (Ring.bk 16 (t.val + 2)) :=
  congrArg (fun M : Memref sig .tc .hbm S1x2x2048x128 .f32 => M.squeeze S2x2048x128 squeezes_S1x2x2048x128_S2x2048x128) (Memref.slice_unit_congr _ (coff0_0_9 t h0 h1) _ _ (fun _ => rfl) (fun _ => rfl))
set_option synthInstance.maxSize 4096 in
theorem coff0_0_10 : ∀ t : Fin grid0.N, k0_off7 (grid0.coords t) = ![(Ring.sl 3 t.val).val, 0, 0, 0] := by decide +kernel
@[sl_canon] theorem canon0_0_10 (t : Fin grid0.N) :
    (scM0_0.slice (Rect.unit (s := S3x2x2048x128) (k0_off7 (grid0.coords t)) S1x2x2048x128.size (k0_off7_inb (grid0.coords t))) (fun _ => rfl)).squeeze S2x2048x128 squeezes_S1x2x2048x128_S2x2048x128 = rslot0_0 (Ring.sl 3 t.val) :=
  congrArg (fun M : Memref sig .tc .vmem S1x2x2048x128 .f32 => M.squeeze S2x2048x128 squeezes_S1x2x2048x128_S2x2048x128) (Memref.slice_unit_congr _ (coff0_0_10 t ) _ _ (fun _ => rfl) (fun _ => rfl))
set_option synthInstance.maxSize 4096 in
theorem coff0_0_11 : ∀ t : Fin grid0.N, k0_off6 (grid0.coords t) = ![(Ring.sl 3 t.val).val, 0] := by decide +kernel
@[sl_canon] theorem canon0_0_11 (t : Fin grid0.N) :
    (cc0_scratch5.slice (Rect.unit (s := S3x3) (k0_off6 (grid0.coords t)) S1x1.size (k0_off6_inb (grid0.coords t)))).squeeze S_ squeezes_S1x1_S_ = cellA0_0 (Ring.sl 3 t.val) :=
  congrArg (fun A : DmaSems sig S1x1 => A.squeeze S_ squeezes_S1x1_S_) (SemArray.slice_unit_congr _ (coff0_0_11 t ) _ _)
set_option synthInstance.maxSize 4096 in
theorem coff0_0_12 : ∀ t : Fin grid0.N, ¬cond0_0 (grid0.coords t) → cond0_1 (grid0.coords t) → k0_off3 (grid0.coords t) = ![1 * (Ring.bk 16 (t.val + 2)).val, 0, 0, 0] := by decide +kernel
@[sl_canon] theorem canon0_0_12 (t : Fin grid0.N) (h0 : ¬cond0_0 (grid0.coords t)) (h1 : cond0_1 (grid0.coords t)) :
    (hbM0_0.slice (Rect.unit (s := S16x2x2048x128) (k0_off3 (grid0.coords t)) S1x2x2048x128.size (k0_off3_inb (grid0.coords t) h1)) (fun _ => rfl)).squeeze S2x2048x128 squeezes_S1x2x2048x128_S2x2048x128 = srcB0_0 (Ring.bk 16 (t.val + 2)) :=
  congrArg (fun M : Memref sig .tc .hbm S1x2x2048x128 .f32 => M.squeeze S2x2048x128 squeezes_S1x2x2048x128_S2x2048x128) (Memref.slice_unit_congr _ (coff0_0_12 t h0 h1) _ _ (fun _ => rfl) (fun _ => rfl))
end Canon0_0

/-! ## Ring 1 of kernel 0: `main_call0_v1` streamed through the 3 slots of `cc0_scratch1` on the cells of `cc0_scratch5`, 2 block ahead, in 16 steps -/

theorem inb_slot0_1 (s : Fin 3) : ∀ a, (![s.val, 0, 0, 0] : Fin 4 → Nat) a + S1x2x2048x128.size a ≤ S3x2x2048x128.size a := by
  have := s.isLt; intro a; fin_cases a <;> simp <;> omega
theorem inb_src0_1 (b : Fin 16) : ∀ a, (![1 * b.val, 0, 0, 0] : Fin 4 → Nat) a + S1x2x2048x128.size a ≤ S16x2x2048x128.size a := by
  have := b.isLt; intro a; fin_cases a <;> simp <;> omega
theorem inb_cell0_1 (s : Fin 3) : ∀ a, (![s.val, 1] : Fin 2 → Nat) a + S1x1.size a ≤ S3x3.size a := by
  have := s.isLt; intro a; fin_cases a <;> simp <;> omega
/-- Slot `s` of the ring, spelt as the body's transfers spell their destination, at offsets in `s`. -/
def rslot0_1 (s : Fin 3) : Memref sig .tc .vmem S2x2048x128 .f32 :=
  (scM0_1.slice (Rect.unit (s := S3x2x2048x128) ![s.val, 0, 0, 0] S1x2x2048x128.size (inb_slot0_1 s)) (fun _ => rfl)).squeeze S2x2048x128 squeezes_S1x2x2048x128_S2x2048x128
/-- Block `b` of the operand (the block step `b` waits), spelt as the transfers spell their source, at offsets in `b`. -/
def srcB0_1 (b : Fin 16) : Memref sig .tc .hbm S2x2048x128 .f32 :=
  (hbM0_1.slice (Rect.unit (s := S16x2x2048x128) ![1 * b.val, 0, 0, 0] S1x2x2048x128.size (inb_src0_1 b)) (fun _ => rfl)).squeeze S2x2048x128 squeezes_S1x2x2048x128_S2x2048x128
/-- Cell `s` of `cc0_scratch5`, spelt as the body spells a cell; its number in the pool. -/
def cellA0_1 (s : Fin 3) : DmaSems sig S_ := (cc0_scratch5.slice (Rect.unit (s := S3x3) ![s.val, 1] S1x1.size (inb_cell0_1 s))).squeeze S_ squeezes_S1x1_S_
abbrev cellR0_1 (s : Fin 3) : SemLoc sig := SemLoc.dma (cellA0_1 s).sem
theorem cellR0_1_0 : cellR0_1 0 = SemLoc.dma 5 := by decide
theorem cellR0_1_1 : cellR0_1 1 = SemLoc.dma 8 := by decide
theorem cellR0_1_2 : cellR0_1 2 = SemLoc.dma 11 := by decide

section Ring0_1
variable (c : Dev nD) (W : HbBuf0 (F := F) c hbM0_1)
/-- The operand is lent BY SHARE, one read-share copy of it per slot (the full share halved, the right half halved again):
    whatever blocks the transfers in flight stream — the same one twice, ones that overlap —, each borrows from its own slot's copy. -/
abbrev qs0_1 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_1 (s : Fin 3) (f : HbBuf0 (F := F) c (rslot0_1 s)) : sProp 𝕄 := (rslot0_1 s).view.loc (c : Thread nD τ) ↦[(rslot0_1 s).view.set]{fullShare} f
abbrev cellP0_1 (s : Fin 3) : sProp 𝕄 := semVal ((c : Thread nD τ), cellR0_1 s) 0
abbrev srcP0_1 (s : Fin 3) (b : Fin 16) : sProp 𝕄 := (srcB0_1 b).view.loc (c : Thread nD τ) ↦[(srcB0_1 b).view.set]{qs0_1 s} W
/-- (a `def`: no run reads this rest, and folded it stays out of the executor's table of held buffers) -/
def restP0_1 (s : Fin 3) (b : Fin 16) : sProp 𝕄 := ((c : Thread nD τ).loc main_call0_v1) ↦[Finset.univ \ (srcB0_1 b).view.set]{qs0_1 s} W
abbrev wholeP0_1 (s : Fin 3) : sProp 𝕄 := ((c : Thread nD τ).loc main_call0_v1) ↦[Finset.univ]{qs0_1 s} W
abbrev landed0_1 (s : Fin 3) (b : Fin 16) (f : HbBuf0 (F := F) c (rslot0_1 s)) : HbBuf0 (F := F) c (rslot0_1 s) :=
  (rslot0_1 s).view.writes (Elt F) f [⟨Rect.whole S2x2048x128, ReadAs.same.apply ((srcB0_1 b).view.read (Elt F) W)⟩]
abbrev flightP0_1 (s : Fin 3) (b : Fin 16) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- Lib/Ring.lean's `slot` and `flight` families: a slot not in flight carries its copy of the operand whole; a flight, the
    rest of the copy it borrowed from. No block is held apart: the `home` family is `emp`. -/
abbrev slotW0_1 (s : Fin 3) (f : HbBuf0 (F := F) c (rslot0_1 s)) : sProp 𝕄 := iprop(slotP0_1 c s f ∗ wholeP0_1 c W s)
abbrev flightW0_1 (s : Fin 3) (b : Fin 16) (f : HbBuf0 (F := F) c (rslot0_1 s)) : sProp 𝕄 := iprop(flightP0_1 c W s b f ∗ restP0_1 c W s b)
abbrev noHome0_1 (b : Fin 16) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_1 (k : ℕ) : sProp 𝕄 :=
  if k = 0 then Ring.At₀ (cellP0_1 c) (slotW0_1 c W) noHome0_1
  else Ring.At 2 (cellP0_1 c) (slotW0_1 c W) noHome0_1 (flightW0_1 c W) k
omit [FloatOps F] in
theorem cellP0_1_0 : cellP0_1 (F := F) c 0 = semVal ((c : Thread nD τ), SemLoc.dma 5) 0 := congrArg (fun x => (semVal ((c : Thread nD τ), x) 0 : sProp 𝕄)) cellR0_1_0
omit [FloatOps F] in
theorem cellP0_1_1 : cellP0_1 (F := F) c 1 = semVal ((c : Thread nD τ), SemLoc.dma 8) 0 := congrArg (fun x => (semVal ((c : Thread nD τ), x) 0 : sProp 𝕄)) cellR0_1_1
omit [FloatOps F] in
theorem cellP0_1_2 : cellP0_1 (F := F) c 2 = semVal ((c : Thread nD τ), SemLoc.dma 11) 0 := congrArg (fun x => (semVal ((c : Thread nD τ), x) 0 : sProp 𝕄)) cellR0_1_2
end Ring0_1

/-! ### The slots, disjoint and covering the scratch (Lib/Ring.lean `lead_disjoint` / `lead_cover`) -/

abbrev slotSet0_1 (s : Fin 3) : Finset S3x2x2048x128.Idx := (Rect.unit (s := S3x2x2048x128) ![s.val, 0, 0, 0] S1x2x2048x128.size (inb_slot0_1 s)).set
theorem slotSet0_1_eq (s : Fin 3) : (rslot0_1 s).view.set = slotSet0_1 s := by
  simp only [rslot0_1, Memref.view_squeeze, View.set_reshape]; exact View.set_slice_whole _ _
theorem slots0_1_disjoint (s s' : Fin 3) (h : s ≠ s') : Disjoint (slotSet0_1 s) (slotSet0_1 s') :=
  Ring.lead_disjoint (s := S3x2x2048x128) (0 : Fin 4) 1 (fun s : Fin 3 => (![s.val, 0, 0, 0] : Fin 4 → Nat)) S1x2x2048x128.size inb_slot0_1 (fun s => by simp) rfl s s' h
theorem slots0_1_cover : Finset.univ.biUnion slotSet0_1 = Finset.univ :=
  Ring.lead_cover (s := S3x2x2048x128) (0 : Fin 4) 1 (fun s : Fin 3 => (![s.val, 0, 0, 0] : Fin 4 → Nat)) S1x2x2048x128.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 3) (f) : slotP0_1 (F := F) c s f = (((c : Thread nD τ).loc cc0_scratch1) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 3) (b : Fin 16) : wholeP0_1 (F := F) c W s ⊣⊢ iprop(srcP0_1 c W s b ∗ restP0_1 c W s b) := by
  unfold restP0_1; exact pointsTo_split_subset (Finset.subset_univ _)
/-- the operand whole at the full share is the three copies (halves, the right one halved again). -/
theorem whole0_1_split : (hbPt0 c hbM0_1 W : sProp 𝕄) ⊣⊢ iprop(wholeP0_1 c W 0 ∗ wholeP0_1 c W 1 ∗ wholeP0_1 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_1_in : iprop(∃ d, owns (c : Thread nD τ) scM0_1 fullShare d) ⊢ (iprop((∃ f, slotP0_1 (F := F) c 0 f) ∗ (∃ f, slotP0_1 (F := F) c 1 f) ∗ ∃ f, slotP0_1 (F := F) c 2 f) : sProp 𝕄) := by
  simp only [scM0_1, owns_whole]
  exact Ring.slots3_split (U := Pipeline.UD sig nD τ) (ℓ := (c : Thread nD τ).loc cc0_scratch1) (q := fullShare) slotSet0_1 slots0_1_disjoint slots0_1_cover
    (slotP0_1 c 0) (slotP0_1 c 1) (slotP0_1 c 2) (slotP0_1_eq c 0) (slotP0_1_eq c 1) (slotP0_1_eq c 2)
set_option maxHeartbeats 1000000 in
theorem slots0_1_out : (iprop((∃ f, slotP0_1 (F := F) c 0 f) ∗ (∃ f, slotP0_1 (F := F) c 1 f) ∗ ∃ f, slotP0_1 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_1 slots0_1_disjoint slots0_1_cover
    (slotP0_1 c 0) (slotP0_1 c 1) (slotP0_1 c 2) (slotP0_1_eq c 0) (slotP0_1_eq c 1) (slotP0_1_eq c 2)
end InOut0_1

/-- INTO THE RING: the launch's pieces — the scratch whole, the cells at zero, the operand whole — are the ring before its first step; -/
theorem ring0_1_in (c : Dev nD) :
    iprop((∃ d, owns (c : Thread nD τ) scM0_1 fullShare d) ∗ (semVal ((c : Thread nD τ), SemLoc.dma 5) 0 ∗ semVal ((c : Thread nD τ), SemLoc.dma 8) 0 ∗ semVal ((c : Thread nD τ), SemLoc.dma 11) 0) ∗ hbPt0 c hbM0_1 (V m c main_call0_v1))
      ⊢ ringAt0_1 c (V m c main_call0_v1) 0 := by
  unfold ringAt0_1; rw [if_pos rfl]; unfold Ring.At₀
  rw [Ring.bigSep_fin3]
  simp only [Ring.free, cellP0_1_0, cellP0_1_1, cellP0_1_2]
  iintro ⟨HS, Hc, HW⟩
  iapply Ring.with_homes₀
  icases Hc with ⟨H0, H1, H2⟩
  ihave HS' := (slots0_1_in (F := F) c) $$ HS
  icases HS' with ⟨⟨%d0, HS0⟩, ⟨%d1, HS1⟩, ⟨%d2, HS2⟩⟩
  ihave HW' := (whole0_1_split (F := F) c (V m c main_call0_v1)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_1_out (c : Dev nD) :
    ringAt0_1 c (V m c main_call0_v1) 16
      ⊢ iprop((∃ d, owns (c : Thread nD τ) scM0_1 fullShare d) ∗ (semVal ((c : Thread nD τ), SemLoc.dma 5) 0 ∗ semVal ((c : Thread nD τ), SemLoc.dma 8) 0 ∗ semVal ((c : Thread nD τ), SemLoc.dma 11) 0) ∗ hbPt0 c hbM0_1 (V m c main_call0_v1)) := by
  unfold ringAt0_1; rw [if_neg (by decide)]
  iintro H
  ihave H' := (Ring.free3_of_At_last _ _ _ _) $$ H
  simp only [Ring.free, cellP0_1_0, cellP0_1_1, cellP0_1_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_1_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_1_split (F := F) c (V m c main_call0_v1)).2; isplitl [HW0]; · iexact HW0
    isplitl [HW1]; · iexact HW1
    iexact HW2

/-! ### Ring 1's steps at each case's points, and its canonical names: the body's operands at point `t` are the ring's slots, blocks and cells -/

section Canon0_1
omit [FloatOps F]
/-- At the points of case A the ring takes its FIRST step. -/
theorem rstep0_1_A : ∀ t : Fin grid0.N, cond0_0 (grid0.coords t) → cond0_1 (grid0.coords t) → t.val = 0 ∧ (t.val + 1) = 1 := by decide +kernel
/-- At the points of case B the ring takes a step, a block still to start. -/
theorem rstep0_1_B : ∀ t : Fin grid0.N, ¬cond0_0 (grid0.coords t) → cond0_1 (grid0.coords t) → 1 ≤ t.val ∧ t.val + 2 < 16 ∧ (t.val + 1) = t.val + 1 := by decide +kernel
/-- At the points of case C the ring takes its LAST step. -/
theorem rstep0_1_C : ∀ t : Fin grid0.N, ¬cond0_0 (grid0.coords t) → ¬cond0_1 (grid0.coords t) → 1 ≤ t.val ∧ 16 ≤ t.val + 2 ∧ t.val < 16 ∧ (t.val + 1) = t.val + 1 := by decide +kernel
set_option synthInstance.maxSize 4096 in
theorem coff0_1_1 : ∀ t : Fin grid0.N, cond0_0 (grid0.coords t) → cond0_1 (grid0.coords t) → (![0, 0, 0, 0] : Fin 4 → Nat) = ![(Ring.sl 3 t.val).val, 0, 0, 0] := by decide +kernel
@[sl_canon] theorem canon0_1_1 (t : Fin grid0.N) (h0 : cond0_0 (grid0.coords t)) (h1 : cond0_1 (grid0.coords t)) :
    (scM0_1.slice (Rect.unit (s := S3x2x2048x128) ![0, 0, 0, 0] S1x2x2048x128.size inb_S3x2x2048x128_S1x2x2048x128_0_0_0_0) (fun _ => rfl)).squeeze S2x2048x128 squeezes_S1x2x2048x128_S2x2048x128 = rslot0_1 (Ring.sl 3 t.val) :=
  congrArg (fun M : Memref sig .tc .vmem S1x2x2048x128 .f32 => M.squeeze S2x2048x128 squeezes_S1x2x2048x128_S2x2048x128) (Memref.slice_unit_congr _ (coff0_1_1 t h0 h1) _ _ (fun _ => rfl) (fun _ => rfl))
set_option synthInstance.maxSize 4096 in
theorem coff0_1_2 : ∀ t : Fin grid0.N, cond0_0 (grid0.coords t) → cond0_1 (grid0.coords t) → (![0, 1] : Fin 2 → Nat) = ![(Ring.sl 3 t.val).val, 1] := by decide +kernel
@[sl_canon] theorem canon0_1_2 (t : Fin grid0.N) (h0 : cond0_0 (grid0.coords t)) (h1 : cond0_1 (grid0.coords t)) :
    (cc0_scratch5.slice (Rect.unit (s := S3x3) ![0, 1] S1x1.size inb_S3x3_S1x1_0_1)).squeeze S_ squeezes_S1x1_S_ = cellA0_1 (Ring.sl 3 t.val) :=
  congrArg (fun A : DmaSems sig S1x1 => A.squeeze S_ squeezes_S1x1_S_) (SemArray.slice_unit_congr _ (coff0_1_2 t h0 h1) _ _)
set_option synthInstance.maxSize 4096 in
theorem coff0_1_3 : ∀ t : Fin grid0.N, cond0_0 (grid0.coords t) → cond0_1 (grid0.coords t) → (![0, 0, 0, 0] : Fin 4 → Nat) = ![1 * (Ring.bk 16 t.val).val, 0, 0, 0] := by decide +kernel
@[sl_canon] theorem canon0_1_3 (t : Fin grid0.N) (h0 : cond0_0 (grid0.coords t)) (h1 : cond0_1 (grid0.coords t)) :
    (hbM0_1.slice (Rect.unit (s := S16x2x2048x128) ![0, 0, 0, 0] S1x2x2048x128.size inb_S16x2x2048x128_S1x2x2048x128_0_0_0_0) (fun _ => rfl)).squeeze S2x2048x128 squeezes_S1x2x2048x128_S2x2048x128 = srcB0_1 (Ring.bk 16 t.val) :=
  congrArg (fun M : Memref sig .tc .hbm S1x2x2048x128 .f32 => M.squeeze S2x2048x128 squeezes_S1x2x2048x128_S2x2048x128) (Memref.slice_unit_congr _ (coff0_1_3 t h0 h1) _ _ (fun _ => rfl) (fun _ => rfl))
set_option synthInstance.maxSize 4096 in
theorem coff0_1_4 : ∀ t : Fin grid0.N, cond0_0 (grid0.coords t) → cond0_1 (grid0.coords t) → (![1, 0, 0, 0] : Fin 4 → Nat) = ![(Ring.sl 3 (t.val + 1)).val, 0, 0, 0] := by decide +kernel
@[sl_canon] theorem canon0_1_4 (t : Fin grid0.N) (h0 : cond0_0 (grid0.coords t)) (h1 : cond0_1 (grid0.coords t)) :
    (scM0_1.slice (Rect.unit (s := S3x2x2048x128) ![1, 0, 0, 0] S1x2x2048x128.size inb_S3x2x2048x128_S1x2x2048x128_1_0_0_0) (fun _ => rfl)).squeeze S2x2048x128 squeezes_S1x2x2048x128_S2x2048x128 = rslot0_1 (Ring.sl 3 (t.val + 1)) :=
  congrArg (fun M : Memref sig .tc .vmem S1x2x2048x128 .f32 => M.squeeze S2x2048x128 squeezes_S1x2x2048x128_S2x2048x128) (Memref.slice_unit_congr _ (coff0_1_4 t h0 h1) _ _ (fun _ => rfl) (fun _ => rfl))
set_option synthInstance.maxSize 4096 in
theorem coff0_1_5 : ∀ t : Fin grid0.N, cond0_0 (grid0.coords t) → cond0_1 (grid0.coords t) → (![1, 1] : Fin 2 → Nat) = ![(Ring.sl 3 (t.val + 1)).val, 1] := by decide +kernel
@[sl_canon] theorem canon0_1_5 (t : Fin grid0.N) (h0 : cond0_0 (grid0.coords t)) (h1 : cond0_1 (grid0.coords t)) :
    (cc0_scratch5.slice (Rect.unit (s := S3x3) ![1, 1] S1x1.size inb_S3x3_S1x1_1_1)).squeeze S_ squeezes_S1x1_S_ = cellA0_1 (Ring.sl 3 (t.val + 1)) :=
  congrArg (fun A : DmaSems sig S1x1 => A.squeeze S_ squeezes_S1x1_S_) (SemArray.slice_unit_congr _ (coff0_1_5 t h0 h1) _ _)
set_option synthInstance.maxSize 4096 in
theorem coff0_1_6 : ∀ t : Fin grid0.N, cond0_0 (grid0.coords t) → cond0_1 (grid0.coords t) → (![1, 0, 0, 0] : Fin 4 → Nat) = ![1 * (Ring.bk 16 (t.val + 1)).val, 0, 0, 0] := by decide +kernel
@[sl_canon] theorem canon0_1_6 (t : Fin grid0.N) (h0 : cond0_0 (grid0.coords t)) (h1 : cond0_1 (grid0.coords t)) :
    (hbM0_1.slice (Rect.unit (s := S16x2x2048x128) ![1, 0, 0, 0] S1x2x2048x128.size inb_S16x2x2048x128_S1x2x2048x128_1_0_0_0) (fun _ => rfl)).squeeze S2x2048x128 squeezes_S1x2x2048x128_S2x2048x128 = srcB0_1 (Ring.bk 16 (t.val + 1)) :=
  congrArg (fun M : Memref sig .tc .hbm S1x2x2048x128 .f32 => M.squeeze S2x2048x128 squeezes_S1x2x2048x128_S2x2048x128) (Memref.slice_unit_congr _ (coff0_1_6 t h0 h1) _ _ (fun _ => rfl) (fun _ => rfl))
set_option synthInstance.maxSize 4096 in
theorem coff0_1_7 : ∀ t : Fin grid0.N, k0_off2 (grid0.coords t) = ![(Ring.sl 3 (t.val + 2)).val, 0, 0, 0] := by decide +kernel
@[sl_canon] theorem canon0_1_7 (t : Fin grid0.N) (h1 : cond0_1 (grid0.coords t)) :
    (scM0_1.slice (Rect.unit (s := S3x2x2048x128) (k0_off2 (grid0.coords t)) S1x2x2048x128.size (k0_off2_inb (grid0.coords t) h1)) (fun _ => rfl)).squeeze S2x2048x128 squeezes_S1x2x2048x128_S2x2048x128 = rslot0_1 (Ring.sl 3 (t.val + 2)) :=
  congrArg (fun M : Memref sig .tc .vmem S1x2x2048x128 .f32 => M.squeeze S2x2048x128 squeezes_S1x2x2048x128_S2x2048x128) (Memref.slice_unit_congr _ (coff0_1_7 t ) _ _ (fun _ => rfl) (fun _ => rfl))
set_option synthInstance.maxSize 4096 in
theorem coff0_1_8 : ∀ t : Fin grid0.N, k0_off4 (grid0.coords t) = ![(Ring.sl 3 (t.val + 2)).val, 1] := by decide +kernel
@[sl_canon] theorem canon0_1_8 (t : Fin grid0.N) (h1 : cond0_1 (grid0.coords t)) :
    (cc0_scratch5.slice (Rect.unit (s := S3x3) (k0_off4 (grid0.coords t)) S1x1.size (k0_off4_inb (grid0.coords t) h1))).squeeze S_ squeezes_S1x1_S_ = cellA0_1 (Ring.sl 3 (t.val + 2)) :=
  congrArg (fun A : DmaSems sig S1x1 => A.squeeze S_ squeezes_S1x1_S_) (SemArray.slice_unit_congr _ (coff0_1_8 t ) _ _)
set_option synthInstance.maxSize 4096 in
theorem coff0_1_9 : ∀ t : Fin grid0.N, cond0_0 (grid0.coords t) → cond0_1 (grid0.coords t) → k0_off3 (grid0.coords t) = ![1 * (Ring.bk 16 (t.val + 2)).val, 0, 0, 0] := by decide +kernel
@[sl_canon] theorem canon0_1_9 (t : Fin grid0.N) (h0 : cond0_0 (grid0.coords t)) (h1 : cond0_1 (grid0.coords t)) :
    (hbM0_1.slice (Rect.unit (s := S16x2x2048x128) (k0_off3 (grid0.coords t)) S1x2x2048x128.size (k0_off3_inb (grid0.coords t) h1)) (fun _ => rfl)).squeeze S2x2048x128 squeezes_S1x2x2048x128_S2x2048x128 = srcB0_1 (Ring.bk 16 (t.val + 2)) :=
  congrArg (fun M : Memref sig .tc .hbm S1x2x2048x128 .f32 => M.squeeze S2x2048x128 squeezes_S1x2x2048x128_S2x2048x128) (Memref.slice_unit_congr _ (coff0_1_9 t h0 h1) _ _ (fun _ => rfl) (fun _ => rfl))
set_option synthInstance.maxSize 4096 in
theorem coff0_1_10 : ∀ t : Fin grid0.N, k0_off7 (grid0.coords t) = ![(Ring.sl 3 t.val).val, 0, 0, 0] := by decide +kernel
@[sl_canon] theorem canon0_1_10 (t : Fin grid0.N) :
    (scM0_1.slice (Rect.unit (s := S3x2x2048x128) (k0_off7 (grid0.coords t)) S1x2x2048x128.size (k0_off7_inb (grid0.coords t))) (fun _ => rfl)).squeeze S2x2048x128 squeezes_S1x2x2048x128_S2x2048x128 = rslot0_1 (Ring.sl 3 t.val) :=
  congrArg (fun M : Memref sig .tc .vmem S1x2x2048x128 .f32 => M.squeeze S2x2048x128 squeezes_S1x2x2048x128_S2x2048x128) (Memref.slice_unit_congr _ (coff0_1_10 t ) _ _ (fun _ => rfl) (fun _ => rfl))
set_option synthInstance.maxSize 4096 in
theorem coff0_1_11 : ∀ t : Fin grid0.N, k0_off9 (grid0.coords t) = ![(Ring.sl 3 t.val).val, 1] := by decide +kernel
@[sl_canon] theorem canon0_1_11 (t : Fin grid0.N) :
    (cc0_scratch5.slice (Rect.unit (s := S3x3) (k0_off9 (grid0.coords t)) S1x1.size (k0_off9_inb (grid0.coords t)))).squeeze S_ squeezes_S1x1_S_ = cellA0_1 (Ring.sl 3 t.val) :=
  congrArg (fun A : DmaSems sig S1x1 => A.squeeze S_ squeezes_S1x1_S_) (SemArray.slice_unit_congr _ (coff0_1_11 t ) _ _)
set_option synthInstance.maxSize 4096 in
theorem coff0_1_12 : ∀ t : Fin grid0.N, ¬cond0_0 (grid0.coords t) → cond0_1 (grid0.coords t) → k0_off3 (grid0.coords t) = ![1 * (Ring.bk 16 (t.val + 2)).val, 0, 0, 0] := by decide +kernel
@[sl_canon] theorem canon0_1_12 (t : Fin grid0.N) (h0 : ¬cond0_0 (grid0.coords t)) (h1 : cond0_1 (grid0.coords t)) :
    (hbM0_1.slice (Rect.unit (s := S16x2x2048x128) (k0_off3 (grid0.coords t)) S1x2x2048x128.size (k0_off3_inb (grid0.coords t) h1)) (fun _ => rfl)).squeeze S2x2048x128 squeezes_S1x2x2048x128_S2x2048x128 = srcB0_1 (Ring.bk 16 (t.val + 2)) :=
  congrArg (fun M : Memref sig .tc .hbm S1x2x2048x128 .f32 => M.squeeze S2x2048x128 squeezes_S1x2x2048x128_S2x2048x128) (Memref.slice_unit_congr _ (coff0_1_12 t h0 h1) _ _ (fun _ => rfl) (fun _ => rfl))
end Canon0_1

/-! ## Ring 2 of kernel 0: `main_call0_v2` streamed through the 3 slots of `cc0_scratch2` on the cells of `cc0_scratch5`, 2 block ahead, in 16 steps -/

theorem inb_slot0_2 (s : Fin 3) : ∀ a, (![s.val, 0, 0, 0] : Fin 4 → Nat) a + S1x2x2048x128.size a ≤ S3x2x2048x128.size a := by
  have := s.isLt; intro a; fin_cases a <;> simp <;> omega
theorem inb_src0_2 (b : Fin 16) : ∀ a, (![1 * b.val, 0, 0, 0] : Fin 4 → Nat) a + S1x2x2048x128.size a ≤ S16x2x2048x128.size a := by
  have := b.isLt; intro a; fin_cases a <;> simp <;> omega
theorem inb_cell0_2 (s : Fin 3) : ∀ a, (![s.val, 2] : Fin 2 → Nat) a + S1x1.size a ≤ S3x3.size a := by
  have := s.isLt; intro a; fin_cases a <;> simp <;> omega
/-- Slot `s` of the ring, spelt as the body's transfers spell their destination, at offsets in `s`. -/
def rslot0_2 (s : Fin 3) : Memref sig .tc .vmem S2x2048x128 .f32 :=
  (scM0_2.slice (Rect.unit (s := S3x2x2048x128) ![s.val, 0, 0, 0] S1x2x2048x128.size (inb_slot0_2 s)) (fun _ => rfl)).squeeze S2x2048x128 squeezes_S1x2x2048x128_S2x2048x128
/-- Block `b` of the operand (the block step `b` waits), spelt as the transfers spell their source, at offsets in `b`. -/
def srcB0_2 (b : Fin 16) : Memref sig .tc .hbm S2x2048x128 .f32 :=
  (hbM0_2.slice (Rect.unit (s := S16x2x2048x128) ![1 * b.val, 0, 0, 0] S1x2x2048x128.size (inb_src0_2 b)) (fun _ => rfl)).squeeze S2x2048x128 squeezes_S1x2x2048x128_S2x2048x128
/-- Cell `s` of `cc0_scratch5`, spelt as the body spells a cell; its number in the pool. -/
def cellA0_2 (s : Fin 3) : DmaSems sig S_ := (cc0_scratch5.slice (Rect.unit (s := S3x3) ![s.val, 2] S1x1.size (inb_cell0_2 s))).squeeze S_ squeezes_S1x1_S_
abbrev cellR0_2 (s : Fin 3) : SemLoc sig := SemLoc.dma (cellA0_2 s).sem
theorem cellR0_2_0 : cellR0_2 0 = SemLoc.dma 6 := by decide
theorem cellR0_2_1 : cellR0_2 1 = SemLoc.dma 9 := by decide
theorem cellR0_2_2 : cellR0_2 2 = SemLoc.dma 12 := by decide

section Ring0_2
variable (c : Dev nD) (W : HbBuf0 (F := F) c hbM0_2)
/-- The operand is lent BY SHARE, one read-share copy of it per slot (the full share halved, the right half halved again):
    whatever blocks the transfers in flight stream — the same one twice, ones that overlap —, each borrows from its own slot's copy. -/
abbrev qs0_2 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_2 (s : Fin 3) (f : HbBuf0 (F := F) c (rslot0_2 s)) : sProp 𝕄 := (rslot0_2 s).view.loc (c : Thread nD τ) ↦[(rslot0_2 s).view.set]{fullShare} f
abbrev cellP0_2 (s : Fin 3) : sProp 𝕄 := semVal ((c : Thread nD τ), cellR0_2 s) 0
abbrev srcP0_2 (s : Fin 3) (b : Fin 16) : sProp 𝕄 := (srcB0_2 b).view.loc (c : Thread nD τ) ↦[(srcB0_2 b).view.set]{qs0_2 s} W
/-- (a `def`: no run reads this rest, and folded it stays out of the executor's table of held buffers) -/
def restP0_2 (s : Fin 3) (b : Fin 16) : sProp 𝕄 := ((c : Thread nD τ).loc main_call0_v2) ↦[Finset.univ \ (srcB0_2 b).view.set]{qs0_2 s} W
abbrev wholeP0_2 (s : Fin 3) : sProp 𝕄 := ((c : Thread nD τ).loc main_call0_v2) ↦[Finset.univ]{qs0_2 s} W
abbrev landed0_2 (s : Fin 3) (b : Fin 16) (f : HbBuf0 (F := F) c (rslot0_2 s)) : HbBuf0 (F := F) c (rslot0_2 s) :=
  (rslot0_2 s).view.writes (Elt F) f [⟨Rect.whole S2x2048x128, ReadAs.same.apply ((srcB0_2 b).view.read (Elt F) W)⟩]
abbrev flightP0_2 (s : Fin 3) (b : Fin 16) (f : HbBuf0 (F := F) c (rslot0_2 s)) : sProp 𝕄 :=
  Transfers.Flight countersEmb (c : Thread nD τ) (cellR0_2 s) default ((rslot0_2 s).view.amount (cellR0_2 s))
    iprop(slotP0_2 c s (landed0_2 c W s b f) ∗ srcP0_2 c W s b)
/-- Lib/Ring.lean's `slot` and `flight` families: a slot not in flight carries its copy of the operand whole; a flight, the
    rest of the copy it borrowed from. No block is held apart: the `home` family is `emp`. -/
abbrev slotW0_2 (s : Fin 3) (f : HbBuf0 (F := F) c (rslot0_2 s)) : sProp 𝕄 := iprop(slotP0_2 c s f ∗ wholeP0_2 c W s)
abbrev flightW0_2 (s : Fin 3) (b : Fin 16) (f : HbBuf0 (F := F) c (rslot0_2 s)) : sProp 𝕄 := iprop(flightP0_2 c W s b f ∗ restP0_2 c W s b)
abbrev noHome0_2 (b : Fin 16) : sProp 𝕄 := iprop(emp)
/-- The ring before its step `k` (Lib/Ring.lean `At 2`): every slot free before the first; from then on blocks `k` and `k + 1` in
    flight into slots `k` and `k + 1` (while they exist), slot `k + 2` free; a waited block is read within its step and not kept. -/
def ringAt0_2 (k : ℕ) : sProp 𝕄 :=
  if k = 0 then Ring.At₀ (cellP0_2 c) (slotW0_2 c W) noHome0_2
  else Ring.At 2 (cellP0_2 c) (slotW0_2 c W) noHome0_2 (flightW0_2 c W) k
omit [FloatOps F] in
theorem cellP0_2_0 : cellP0_2 (F := F) c 0 = semVal ((c : Thread nD τ), SemLoc.dma 6) 0 := congrArg (fun x => (semVal ((c : Thread nD τ), x) 0 : sProp 𝕄)) cellR0_2_0
omit [FloatOps F] in
theorem cellP0_2_1 : cellP0_2 (F := F) c 1 = semVal ((c : Thread nD τ), SemLoc.dma 9) 0 := congrArg (fun x => (semVal ((c : Thread nD τ), x) 0 : sProp 𝕄)) cellR0_2_1
omit [FloatOps F] in
theorem cellP0_2_2 : cellP0_2 (F := F) c 2 = semVal ((c : Thread nD τ), SemLoc.dma 12) 0 := congrArg (fun x => (semVal ((c : Thread nD τ), x) 0 : sProp 𝕄)) cellR0_2_2
end Ring0_2

/-! ### The slots, disjoint and covering the scratch (Lib/Ring.lean `lead_disjoint` / `lead_cover`) -/

abbrev slotSet0_2 (s : Fin 3) : Finset S3x2x2048x128.Idx := (Rect.unit (s := S3x2x2048x128) ![s.val, 0, 0, 0] S1x2x2048x128.size (inb_slot0_2 s)).set
theorem slotSet0_2_eq (s : Fin 3) : (rslot0_2 s).view.set = slotSet0_2 s := by
  simp only [rslot0_2, Memref.view_squeeze, View.set_reshape]; exact View.set_slice_whole _ _
theorem slots0_2_disjoint (s s' : Fin 3) (h : s ≠ s') : Disjoint (slotSet0_2 s) (slotSet0_2 s') :=
  Ring.lead_disjoint (s := S3x2x2048x128) (0 : Fin 4) 1 (fun s : Fin 3 => (![s.val, 0, 0, 0] : Fin 4 → Nat)) S1x2x2048x128.size inb_slot0_2 (fun s => by simp) rfl s s' h
theorem slots0_2_cover : Finset.univ.biUnion slotSet0_2 = Finset.univ :=
  Ring.lead_cover (s := S3x2x2048x128) (0 : Fin 4) 1 (fun s : Fin 3 => (![s.val, 0, 0, 0] : Fin 4 → Nat)) S1x2x2048x128.size inb_slot0_2 (fun s => by simp)
    (fun s a ha => by fin_cases a <;> first | exact absurd rfl ha | rfl) rfl (fun a ha => by fin_cases a <;> first | exact absurd rfl ha | rfl) rfl

/-! ### What the launch hands the ring, and takes back -/

section InOut0_2
variable (c : Dev nD) (W : HbBuf0 (F := F) c hbM0_2)
theorem slotP0_2_eq (s : Fin 3) (f) : slotP0_2 (F := F) c s f = (((c : Thread nD τ).loc cc0_scratch2) ↦[slotSet0_2 s]{fullShare} f : sProp 𝕄) := by
  unfold slotP0_2; rw [slotSet0_2_eq]; rfl
/-- A slot's copy of the operand, whole, is block `b`'s elements and the rest (any `b`: what a run splits off before its step
    starts block `b`, and joins back once the wait returned it); -/
theorem src0_2_split (s : Fin 3) (b : Fin 16) : wholeP0_2 (F := F) c W s ⊣⊢ iprop(srcP0_2 c W s b ∗ restP0_2 c W s b) := by
  unfold restP0_2; exact pointsTo_split_subset (Finset.subset_univ _)
/-- the operand whole at the full share is the three copies (halves, the right one halved again). -/
theorem whole0_2_split : (hbPt0 c hbM0_2 W : sProp 𝕄) ⊣⊢ iprop(wholeP0_2 c W 0 ∗ wholeP0_2 c W 1 ∗ wholeP0_2 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_2_in : iprop(∃ d, owns (c : Thread nD τ) scM0_2 fullShare d) ⊢ (iprop((∃ f, slotP0_2 (F := F) c 0 f) ∗ (∃ f, slotP0_2 (F := F) c 1 f) ∗ ∃ f, slotP0_2 (F := F) c 2 f) : sProp 𝕄) := by
  simp only [scM0_2, owns_whole]
  exact Ring.slots3_split (U := Pipeline.UD sig nD τ) (ℓ := (c : Thread nD τ).loc cc0_scratch2) (q := fullShare) slotSet0_2 slots0_2_disjoint slots0_2_cover
    (slotP0_2 c 0) (slotP0_2 c 1) (slotP0_2 c 2) (slotP0_2_eq c 0) (slotP0_2_eq c 1) (slotP0_2_eq c 2)
set_option maxHeartbeats 1000000 in
theorem slots0_2_out : (iprop((∃ f, slotP0_2 (F := F) c 0 f) ∗ (∃ f, slotP0_2 (F := F) c 1 f) ∗ ∃ f, slotP0_2 (F := F) c 2 f) : sProp 𝕄) ⊢ iprop(∃ d, owns (c : Thread nD τ) scM0_2 fullShare d) := by
  simp only [scM0_2, owns_whole]
  exact Ring.slots3_join (U := Pipeline.UD sig nD τ) (ℓ := (c : Thread nD τ).loc cc0_scratch2) (q := fullShare) slotSet0_2 slots0_2_disjoint slots0_2_cover
    (slotP0_2 c 0) (slotP0_2 c 1) (slotP0_2 c 2) (slotP0_2_eq c 0) (slotP0_2_eq c 1) (slotP0_2_eq c 2)
end InOut0_2

/-- INTO THE RING: the launch's pieces — the scratch whole, the cells at zero, the operand whole — are the ring before its first step; -/
theorem ring0_2_in (c : Dev nD) :
    iprop((∃ d, owns (c : Thread nD τ) scM0_2 fullShare d) ∗ (semVal ((c : Thread nD τ), SemLoc.dma 6) 0 ∗ semVal ((c : Thread nD τ), SemLoc.dma 9) 0 ∗ semVal ((c : Thread nD τ), SemLoc.dma 12) 0) ∗ hbPt0 c hbM0_2 (V m c main_call0_v2))
      ⊢ ringAt0_2 c (V m c main_call0_v2) 0 := by
  unfold ringAt0_2; rw [if_pos rfl]; unfold Ring.At₀
  rw [Ring.bigSep_fin3]
  simp only [Ring.free, cellP0_2_0, cellP0_2_1, cellP0_2_2]
  iintro ⟨HS, Hc, HW⟩
  iapply Ring.with_homes₀
  icases Hc with ⟨H0, H1, H2⟩
  ihave HS' := (slots0_2_in (F := F) c) $$ HS
  icases HS' with ⟨⟨%d0, HS0⟩, ⟨%d1, HS1⟩, ⟨%d2, HS2⟩⟩
  ihave HW' := (whole0_2_split (F := F) c (V m c main_call0_v2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- OUT OF THE RING: after the last step (every slot kept or free: the kept blocks forgotten) those pieces again. -/
theorem ring0_2_out (c : Dev nD) :
    ringAt0_2 c (V m c main_call0_v2) 16
      ⊢ iprop((∃ d, owns (c : Thread nD τ) scM0_2 fullShare d) ∗ (semVal ((c : Thread nD τ), SemLoc.dma 6) 0 ∗ semVal ((c : Thread nD τ), SemLoc.dma 9) 0 ∗ semVal ((c : Thread nD τ), SemLoc.dma 12) 0) ∗ hbPt0 c hbM0_2 (V m c main_call0_v2)) := by
  unfold ringAt0_2; rw [if_neg (by decide)]
  iintro H
  ihave H' := (Ring.free3_of_At_last _ _ _ _) $$ H
  simp only [Ring.free, cellP0_2_0, cellP0_2_1, cellP0_2_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_2_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_2_split (F := F) c (V m c main_call0_v2)).2; isplitl [HW0]; · iexact HW0
    isplitl [HW1]; · iexact HW1
    iexact HW2

/-! ### Ring 2's steps at each case's points, and its canonical names: the body's operands at point `t` are the ring's slots, blocks and cells -/

section Canon0_2
omit [FloatOps F]
/-- At the points of case A the ring takes its FIRST step. -/
theorem rstep0_2_A : ∀ t : Fin grid0.N, cond0_0 (grid0.coords t) → cond0_1 (grid0.coords t) → t.val = 0 ∧ (t.val + 1) = 1 := by decide +kernel
/-- At the points of case B the ring takes a step, a block still to start. -/
theorem rstep0_2_B : ∀ t : Fin grid0.N, ¬cond0_0 (grid0.coords t) → cond0_1 (grid0.coords t) → 1 ≤ t.val ∧ t.val + 2 < 16 ∧ (t.val + 1) = t.val + 1 := by decide +kernel
/-- At the points of case C the ring takes its LAST step. -/
theorem rstep0_2_C : ∀ t : Fin grid0.N, ¬cond0_0 (grid0.coords t) → ¬cond0_1 (grid0.coords t) → 1 ≤ t.val ∧ 16 ≤ t.val + 2 ∧ t.val < 16 ∧ (t.val + 1) = t.val + 1 := by decide +kernel
set_option synthInstance.maxSize 4096 in
theorem coff0_2_1 : ∀ t : Fin grid0.N, cond0_0 (grid0.coords t) → cond0_1 (grid0.coords t) → (![0, 0, 0, 0] : Fin 4 → Nat) = ![(Ring.sl 3 t.val).val, 0, 0, 0] := by decide +kernel
@[sl_canon] theorem canon0_2_1 (t : Fin grid0.N) (h0 : cond0_0 (grid0.coords t)) (h1 : cond0_1 (grid0.coords t)) :
    (scM0_2.slice (Rect.unit (s := S3x2x2048x128) ![0, 0, 0, 0] S1x2x2048x128.size inb_S3x2x2048x128_S1x2x2048x128_0_0_0_0) (fun _ => rfl)).squeeze S2x2048x128 squeezes_S1x2x2048x128_S2x2048x128 = rslot0_2 (Ring.sl 3 t.val) :=
  congrArg (fun M : Memref sig .tc .vmem S1x2x2048x128 .f32 => M.squeeze S2x2048x128 squeezes_S1x2x2048x128_S2x2048x128) (Memref.slice_unit_congr _ (coff0_2_1 t h0 h1) _ _ (fun _ => rfl) (fun _ => rfl))
set_option synthInstance.maxSize 4096 in
theorem coff0_2_2 : ∀ t : Fin grid0.N, cond0_0 (grid0.coords t) → cond0_1 (grid0.coords t) → (![0, 2] : Fin 2 → Nat) = ![(Ring.sl 3 t.val).val, 2] := by decide +kernel
@[sl_canon] theorem canon0_2_2 (t : Fin grid0.N) (h0 : cond0_0 (grid0.coords t)) (h1 : cond0_1 (grid0.coords t)) :
    (cc0_scratch5.slice (Rect.unit (s := S3x3) ![0, 2] S1x1.size inb_S3x3_S1x1_0_2)).squeeze S_ squeezes_S1x1_S_ = cellA0_2 (Ring.sl 3 t.val) :=
  congrArg (fun A : DmaSems sig S1x1 => A.squeeze S_ squeezes_S1x1_S_) (SemArray.slice_unit_congr _ (coff0_2_2 t h0 h1) _ _)
set_option synthInstance.maxSize 4096 in
theorem coff0_2_3 : ∀ t : Fin grid0.N, cond0_0 (grid0.coords t) → cond0_1 (grid0.coords t) → (![0, 0, 0, 0] : Fin 4 → Nat) = ![1 * (Ring.bk 16 t.val).val, 0, 0, 0] := by decide +kernel
@[sl_canon] theorem canon0_2_3 (t : Fin grid0.N) (h0 : cond0_0 (grid0.coords t)) (h1 : cond0_1 (grid0.coords t)) :
    (hbM0_2.slice (Rect.unit (s := S16x2x2048x128) ![0, 0, 0, 0] S1x2x2048x128.size inb_S16x2x2048x128_S1x2x2048x128_0_0_0_0) (fun _ => rfl)).squeeze S2x2048x128 squeezes_S1x2x2048x128_S2x2048x128 = srcB0_2 (Ring.bk 16 t.val) :=
  congrArg (fun M : Memref sig .tc .hbm S1x2x2048x128 .f32 => M.squeeze S2x2048x128 squeezes_S1x2x2048x128_S2x2048x128) (Memref.slice_unit_congr _ (coff0_2_3 t h0 h1) _ _ (fun _ => rfl) (fun _ => rfl))
set_option synthInstance.maxSize 4096 in
theorem coff0_2_4 : ∀ t : Fin grid0.N, cond0_0 (grid0.coords t) → cond0_1 (grid0.coords t) → (![1, 0, 0, 0] : Fin 4 → Nat) = ![(Ring.sl 3 (t.val + 1)).val, 0, 0, 0] := by decide +kernel
@[sl_canon] theorem canon0_2_4 (t : Fin grid0.N) (h0 : cond0_0 (grid0.coords t)) (h1 : cond0_1 (grid0.coords t)) :
    (scM0_2.slice (Rect.unit (s := S3x2x2048x128) ![1, 0, 0, 0] S1x2x2048x128.size inb_S3x2x2048x128_S1x2x2048x128_1_0_0_0) (fun _ => rfl)).squeeze S2x2048x128 squeezes_S1x2x2048x128_S2x2048x128 = rslot0_2 (Ring.sl 3 (t.val + 1)) :=
  congrArg (fun M : Memref sig .tc .vmem S1x2x2048x128 .f32 => M.squeeze S2x2048x128 squeezes_S1x2x2048x128_S2x2048x128) (Memref.slice_unit_congr _ (coff0_2_4 t h0 h1) _ _ (fun _ => rfl) (fun _ => rfl))
set_option synthInstance.maxSize 4096 in
theorem coff0_2_5 : ∀ t : Fin grid0.N, cond0_0 (grid0.coords t) → cond0_1 (grid0.coords t) → (![1, 2] : Fin 2 → Nat) = ![(Ring.sl 3 (t.val + 1)).val, 2] := by decide +kernel
@[sl_canon] theorem canon0_2_5 (t : Fin grid0.N) (h0 : cond0_0 (grid0.coords t)) (h1 : cond0_1 (grid0.coords t)) :
    (cc0_scratch5.slice (Rect.unit (s := S3x3) ![1, 2] S1x1.size inb_S3x3_S1x1_1_2)).squeeze S_ squeezes_S1x1_S_ = cellA0_2 (Ring.sl 3 (t.val + 1)) :=
  congrArg (fun A : DmaSems sig S1x1 => A.squeeze S_ squeezes_S1x1_S_) (SemArray.slice_unit_congr _ (coff0_2_5 t h0 h1) _ _)
set_option synthInstance.maxSize 4096 in
theorem coff0_2_6 : ∀ t : Fin grid0.N, cond0_0 (grid0.coords t) → cond0_1 (grid0.coords t) → (![1, 0, 0, 0] : Fin 4 → Nat) = ![1 * (Ring.bk 16 (t.val + 1)).val, 0, 0, 0] := by decide +kernel
@[sl_canon] theorem canon0_2_6 (t : Fin grid0.N) (h0 : cond0_0 (grid0.coords t)) (h1 : cond0_1 (grid0.coords t)) :
    (hbM0_2.slice (Rect.unit (s := S16x2x2048x128) ![1, 0, 0, 0] S1x2x2048x128.size inb_S16x2x2048x128_S1x2x2048x128_1_0_0_0) (fun _ => rfl)).squeeze S2x2048x128 squeezes_S1x2x2048x128_S2x2048x128 = srcB0_2 (Ring.bk 16 (t.val + 1)) :=
  congrArg (fun M : Memref sig .tc .hbm S1x2x2048x128 .f32 => M.squeeze S2x2048x128 squeezes_S1x2x2048x128_S2x2048x128) (Memref.slice_unit_congr _ (coff0_2_6 t h0 h1) _ _ (fun _ => rfl) (fun _ => rfl))
set_option synthInstance.maxSize 4096 in
theorem coff0_2_7 : ∀ t : Fin grid0.N, k0_off2 (grid0.coords t) = ![(Ring.sl 3 (t.val + 2)).val, 0, 0, 0] := by decide +kernel
@[sl_canon] theorem canon0_2_7 (t : Fin grid0.N) (h1 : cond0_1 (grid0.coords t)) :
    (scM0_2.slice (Rect.unit (s := S3x2x2048x128) (k0_off2 (grid0.coords t)) S1x2x2048x128.size (k0_off2_inb (grid0.coords t) h1)) (fun _ => rfl)).squeeze S2x2048x128 squeezes_S1x2x2048x128_S2x2048x128 = rslot0_2 (Ring.sl 3 (t.val + 2)) :=
  congrArg (fun M : Memref sig .tc .vmem S1x2x2048x128 .f32 => M.squeeze S2x2048x128 squeezes_S1x2x2048x128_S2x2048x128) (Memref.slice_unit_congr _ (coff0_2_7 t ) _ _ (fun _ => rfl) (fun _ => rfl))
set_option synthInstance.maxSize 4096 in
theorem coff0_2_8 : ∀ t : Fin grid0.N, k0_off5 (grid0.coords t) = ![(Ring.sl 3 (t.val + 2)).val, 2] := by decide +kernel
@[sl_canon] theorem canon0_2_8 (t : Fin grid0.N) (h1 : cond0_1 (grid0.coords t)) :
    (cc0_scratch5.slice (Rect.unit (s := S3x3) (k0_off5 (grid0.coords t)) S1x1.size (k0_off5_inb (grid0.coords t) h1))).squeeze S_ squeezes_S1x1_S_ = cellA0_2 (Ring.sl 3 (t.val + 2)) :=
  congrArg (fun A : DmaSems sig S1x1 => A.squeeze S_ squeezes_S1x1_S_) (SemArray.slice_unit_congr _ (coff0_2_8 t ) _ _)
set_option synthInstance.maxSize 4096 in
theorem coff0_2_9 : ∀ t : Fin grid0.N, cond0_0 (grid0.coords t) → cond0_1 (grid0.coords t) → k0_off3 (grid0.coords t) = ![1 * (Ring.bk 16 (t.val + 2)).val, 0, 0, 0] := by decide +kernel
@[sl_canon] theorem canon0_2_9 (t : Fin grid0.N) (h0 : cond0_0 (grid0.coords t)) (h1 : cond0_1 (grid0.coords t)) :
    (hbM0_2.slice (Rect.unit (s := S16x2x2048x128) (k0_off3 (grid0.coords t)) S1x2x2048x128.size (k0_off3_inb (grid0.coords t) h1)) (fun _ => rfl)).squeeze S2x2048x128 squeezes_S1x2x2048x128_S2x2048x128 = srcB0_2 (Ring.bk 16 (t.val + 2)) :=
  congrArg (fun M : Memref sig .tc .hbm S1x2x2048x128 .f32 => M.squeeze S2x2048x128 squeezes_S1x2x2048x128_S2x2048x128) (Memref.slice_unit_congr _ (coff0_2_9 t h0 h1) _ _ (fun _ => rfl) (fun _ => rfl))
set_option synthInstance.maxSize 4096 in
theorem coff0_2_10 : ∀ t : Fin grid0.N, k0_off7 (grid0.coords t) = ![(Ring.sl 3 t.val).val, 0, 0, 0] := by decide +kernel
@[sl_canon] theorem canon0_2_10 (t : Fin grid0.N) :
    (scM0_2.slice (Rect.unit (s := S3x2x2048x128) (k0_off7 (grid0.coords t)) S1x2x2048x128.size (k0_off7_inb (grid0.coords t))) (fun _ => rfl)).squeeze S2x2048x128 squeezes_S1x2x2048x128_S2x2048x128 = rslot0_2 (Ring.sl 3 t.val) :=
  congrArg (fun M : Memref sig .tc .vmem S1x2x2048x128 .f32 => M.squeeze S2x2048x128 squeezes_S1x2x2048x128_S2x2048x128) (Memref.slice_unit_congr _ (coff0_2_10 t ) _ _ (fun _ => rfl) (fun _ => rfl))
set_option synthInstance.maxSize 4096 in
theorem coff0_2_11 : ∀ t : Fin grid0.N, k0_off10 (grid0.coords t) = ![(Ring.sl 3 t.val).val, 2] := by decide +kernel
@[sl_canon] theorem canon0_2_11 (t : Fin grid0.N) :
    (cc0_scratch5.slice (Rect.unit (s := S3x3) (k0_off10 (grid0.coords t)) S1x1.size (k0_off10_inb (grid0.coords t)))).squeeze S_ squeezes_S1x1_S_ = cellA0_2 (Ring.sl 3 t.val) :=
  congrArg (fun A : DmaSems sig S1x1 => A.squeeze S_ squeezes_S1x1_S_) (SemArray.slice_unit_congr _ (coff0_2_11 t ) _ _)
set_option synthInstance.maxSize 4096 in
theorem coff0_2_12 : ∀ t : Fin grid0.N, ¬cond0_0 (grid0.coords t) → cond0_1 (grid0.coords t) → k0_off3 (grid0.coords t) = ![1 * (Ring.bk 16 (t.val + 2)).val, 0, 0, 0] := by decide +kernel
@[sl_canon] theorem canon0_2_12 (t : Fin grid0.N) (h0 : ¬cond0_0 (grid0.coords t)) (h1 : cond0_1 (grid0.coords t)) :
    (hbM0_2.slice (Rect.unit (s := S16x2x2048x128) (k0_off3 (grid0.coords t)) S1x2x2048x128.size (k0_off3_inb (grid0.coords t) h1)) (fun _ => rfl)).squeeze S2x2048x128 squeezes_S1x2x2048x128_S2x2048x128 = srcB0_2 (Ring.bk 16 (t.val + 2)) :=
  congrArg (fun M : Memref sig .tc .hbm S1x2x2048x128 .f32 => M.squeeze S2x2048x128 squeezes_S1x2x2048x128_S2x2048x128) (Memref.slice_unit_congr _ (coff0_2_12 t h0 h1) _ _ (fun _ => rfl) (fun _ => rfl))
end Canon0_2

end Cert.KernelIdeal.Run

end
-- ==== Proof.Ideal.RunA.lean ====
module

public import proofs.«01_k».proof.Proof.Ideal.Runs

@[expose] public section

-- the rectangles have long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 6740000 in
/-- What the body's stores leave in each output's staging memref, as pieces (last first) IN CASE A (`scf.if` 0 taken, `scf.if` 1 taken: points 0), WITH the
    proof that on whole staging memrefs — the inputs' at their contents, the other outputs' at
    anything, the scratch buffers at anything, each ring's pieces for the point's role (the blocks it starts, still home at the operand's launch contents `fh·`; the flights it waits for; the free slots it fills: `pieces`), any other HBM operand whole and own cell at zero, and the core's `owes`, the body runs to the continuation holding the inputs' as they were,
    the scratch at some contents, each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : cond0_0 (grid0.coords t)) (hc1 : cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) :
    { L2 : List (View.Piece (Elt F) S1x2x2048x128 .f32) //
      ∀ (W : Waits sig Unit) (K : PUnit → sProp 𝕄),
        iprop(owns (c : Thread nD τ) arg1 fullShare x0 ∗ owns (c : Thread nD τ) arg2 fullShare x1 ∗ (∃ d, owns (c : Thread nD τ) arg6 fullShare d) ∗ (∃ d, owns (c : Thread nD τ) arg10 fullShare d) ∗ (∃ d, owns (c : Thread nD τ) arg11 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ Ring.free (cellP0_1 c) (slotW0_1 c fh1) (Ring.sl 3 t.val) ∗ Ring.free (cellP0_1 c) (slotW0_1 c fh1) (Ring.sl 3 (t.val + 1)) ∗ Ring.free (cellP0_1 c) (slotW0_1 c fh1) (Ring.sl 3 (t.val + 2)) ∗ Ring.free (cellP0_2 c) (slotW0_2 c fh2) (Ring.sl 3 t.val) ∗ Ring.free (cellP0_2 c) (slotW0_2 c fh2) (Ring.sl 3 (t.val + 1)) ∗ Ring.free (cellP0_2 c) (slotW0_2 c fh2) (Ring.sl 3 (t.val + 2)) ∗ owes (c : Thread nD τ) 0 W
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f L2) ∗ (∃ d, owns (c : Thread nD τ) arg10 fullShare d) ∗ (∃ d, owns (c : Thread nD τ) arg11 fullShare d) ∗ Ring.inflight (flightW0_0 c fh0) (Ring.sl 3 (t.val + 1)) (Ring.bk 16 (t.val + 1)) ∗ Ring.inflight (flightW0_0 c fh0) (Ring.sl 3 (t.val + 2)) (Ring.bk 16 (t.val + 2)) ∗ Ring.free (cellP0_0 c) (slotW0_0 c fh0) (Ring.sl 3 t.val) ∗ Ring.inflight (flightW0_1 c fh1) (Ring.sl 3 (t.val + 1)) (Ring.bk 16 (t.val + 1)) ∗ Ring.inflight (flightW0_1 c fh1) (Ring.sl 3 (t.val + 2)) (Ring.bk 16 (t.val + 2)) ∗ Ring.free (cellP0_1 c) (slotW0_1 c fh1) (Ring.sl 3 t.val) ∗ Ring.inflight (flightW0_2 c fh2) (Ring.sl 3 (t.val + 1)) (Ring.bk 16 (t.val + 1)) ∗ Ring.inflight (flightW0_2 c fh2) (Ring.sl 3 (t.val + 2)) (Ring.bk 16 (t.val + 2)) ∗ Ring.free (cellP0_2 c) (slotW0_2 c fh2) (Ring.sl 3 t.val) ∗ (∃ W', owes (c : Thread nD τ) 0 W')) -∗ K ⟨⟩))
          ⊢ wp frame (wpE (defs₀ (F := F)) Variants.none c none) Set.univ (cc0__attn_body (grid0.coords t) arg1 harg1 arg2 harg2 (Memref.whole main_call0_v0) (Memref.isWhole_whole _) (Memref.whole main_call0_v1) (Memref.isWhole_whole _) (Memref.whole main_call0_v2) (Memref.isWhole_whole _) arg6 harg6 scM0_0 (Memref.isWhole_whole _) scM0_1 (Memref.isWhole_whole _) scM0_2 (Memref.isWhole_whole _) arg10 harg10 arg11 harg11 cc0_scratch5) K } := by
  refine ⟨?_, fun W K => ?run⟩
  case run =>
    haveI : Fact (cond0_0 (grid0.coords t)) := ⟨hc0⟩
    haveI : Fact (cond0_1 (grid0.coords t)) := ⟨hc1⟩
    simp only [cc0__attn_body_eq_skeleton]; unfold cc0__attn_body_skel
    simp only [k0_part89_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    have hcanon0 := canon0_0_1 t hc0 hc1
    have hcanon1 := canon0_0_2 t hc0 hc1
    have hcanon2 := canon0_0_3 t hc0 hc1
    have hcanon3 := canon0_0_4 t hc0 hc1
    have hcanon4 := canon0_0_5 t hc0 hc1
    have hcanon5 := canon0_0_6 t hc0 hc1
    have hcanon6 := canon0_0_10 t
    have hcanon7 := canon0_1_1 t hc0 hc1
    have hcanon8 := canon0_1_2 t hc0 hc1
    have hcanon9 := canon0_1_3 t hc0 hc1
    have hcanon10 := canon0_1_4 t hc0 hc1
    have hcanon11 := canon0_1_5 t hc0 hc1
    have hcanon12 := canon0_1_6 t hc0 hc1
    have hcanon13 := canon0_1_10 t
    have hcanon14 := canon0_2_1 t hc0 hc1
    have hcanon15 := canon0_2_2 t hc0 hc1
    have hcanon16 := canon0_2_3 t hc0 hc1
    have hcanon17 := canon0_2_4 t hc0 hc1
    have hcanon18 := canon0_2_5 t hc0 hc1
    have hcanon19 := canon0_2_6 t hc0 hc1
    have hcanon20 := canon0_2_10 t
    unfold owns Ring.free Ring.inflight
    iintro ⟨⟨%f0, %hf0, H0⟩, ⟨%f1, %hf1, H1⟩, ⟨%d2, %f2, -, H2⟩, ⟨%ds3, %fs3, -, HS3⟩, ⟨%ds4, %fs4, -, HS4⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, ⟨Hc0_2_0, ⟨%fs0_2_0, Hs0_2_0, Hw0_2_0⟩⟩, ⟨Hc0_2_1, ⟨%fs0_2_1, Hs0_2_1, Hw0_2_1⟩⟩, ⟨Hc0_2_2, ⟨%fs0_2_2, Hs0_2_2, Hw0_2_2⟩⟩, HW, Hk⟩
    ihave Hsp0_0_0 := (src0_0_split c fh0 (Ring.sl 3 t.val) (Ring.bk 16 t.val)).1 $$ Hw0_0_0
    icases Hsp0_0_0 with ⟨Hh0_0_0, Hr0_0_0⟩
    ihave Hsp0_0_1 := (src0_0_split c fh0 (Ring.sl 3 (t.val + 1)) (Ring.bk 16 (t.val + 1))).1 $$ Hw0_0_1
    icases Hsp0_0_1 with ⟨Hh0_0_1, Hr0_0_1⟩
    ihave Hsp0_0_2 := (src0_0_split c fh0 (Ring.sl 3 (t.val + 2)) (Ring.bk 16 (t.val + 2))).1 $$ Hw0_0_2
    icases Hsp0_0_2 with ⟨Hh0_0_2, Hr0_0_2⟩
    ihave Hsp0_1_0 := (src0_1_split c fh1 (Ring.sl 3 t.val) (Ring.bk 16 t.val)).1 $$ Hw0_1_0
    icases Hsp0_1_0 with ⟨Hh0_1_0, Hr0_1_0⟩
    ihave Hsp0_1_1 := (src0_1_split c fh1 (Ring.sl 3 (t.val + 1)) (Ring.bk 16 (t.val + 1))).1 $$ Hw0_1_1
    icases Hsp0_1_1 with ⟨Hh0_1_1, Hr0_1_1⟩
    ihave Hsp0_1_2 := (src0_1_split c fh1 (Ring.sl 3 (t.val + 2)) (Ring.bk 16 (t.val + 2))).1 $$ Hw0_1_2
    icases Hsp0_1_2 with ⟨Hh0_1_2, Hr0_1_2⟩
    ihave Hsp0_2_0 := (src0_2_split c fh2 (Ring.sl 3 t.val) (Ring.bk 16 t.val)).1 $$ Hw0_2_0
    icases Hsp0_2_0 with ⟨Hh0_2_0, Hr0_2_0⟩
    ihave Hsp0_2_1 := (src0_2_split c fh2 (Ring.sl 3 (t.val + 1)) (Ring.bk 16 (t.val + 1))).1 $$ Hw0_2_1
    icases Hsp0_2_1 with ⟨Hh0_2_1, Hr0_2_1⟩
    ihave Hsp0_2_2 := (src0_2_split c fh2 (Ring.sl 3 (t.val + 2)) (Ring.bk 16 (t.val + 2))).1 $$ Hw0_2_2
    icases Hsp0_2_2 with ⟨Hh0_2_2, Hr0_2_2⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS3]
    · iexists _, _; isplitr; swap; · iexact HS3
      ipureintro; rfl
    isplitl [HS4]
    · iexists _, _; isplitr; swap; · iexact HS4
      ipureintro; rfl
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 16 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 3 t.val) (Ring.bk 16 t.val)).2; isplitl [Hh0_1_0]; · iexact Hh0_1_0
      iexact Hr0_1_0
    isplitl [Hc0_2_1 Hr0_2_1]
    · iexists _; isplitl [Hc0_2_1]; · iexact Hc0_2_1
      iexact Hr0_2_1
    isplitl [Hc0_2_2 Hr0_2_2]
    · iexists _; isplitl [Hc0_2_2]; · iexact Hc0_2_2
      iexact Hr0_2_2
    isplitl [Hc0_2_0 Hs0_2_0 Hh0_2_0 Hr0_2_0]
    · isplitl [Hc0_2_0]; · iexact Hc0_2_0
      iexists _; isplitl [Hs0_2_0]; · iexact Hs0_2_0
      iapply (src0_2_split c fh2 (Ring.sl 3 t.val) (Ring.bk 16 t.val)).2; isplitl [Hh0_2_0]; · iexact Hh0_2_0
      iexact Hr0_2_0
    iexists _; iexact HW

end Cert.KernelIdeal.Run

end
-- ==== Proof.Ideal.RunB.lean ====
module

public import proofs.«01_k».proof.Proof.Ideal.RunA

@[expose] public section

-- the rectangles have long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 6556000 in
/-- What the body's stores leave in each output's staging memref, as pieces (last first) IN CASE B (`scf.if` 0 not taken, `scf.if` 1 taken: points 1, 2, … 13: 13 of 16), WITH the
    proof that on whole staging memrefs — the inputs' at their contents, the other outputs' at
    anything, the scratch buffers at anything, each ring's pieces for the point's role (the blocks it starts, still home at the operand's launch contents `fh·`; the flights it waits for; the free slots it fills: `pieces`), any other HBM operand whole and own cell at zero, and the core's `owes`, the body runs to the continuation holding the inputs' as they were,
    the scratch at some contents, each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : ¬cond0_0 (grid0.coords t)) (hc1 : cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) :
    { L2 : List (View.Piece (Elt F) S1x2x2048x128 .f32) //
      ∀ (W : Waits sig Unit) (K : PUnit → sProp 𝕄),
        iprop(owns (c : Thread nD τ) arg1 fullShare x0 ∗ owns (c : Thread nD τ) arg2 fullShare x1 ∗ (∃ d, owns (c : Thread nD τ) arg6 fullShare d) ∗ (∃ d, owns (c : Thread nD τ) arg10 fullShare d) ∗ (∃ d, owns (c : Thread nD τ) arg11 fullShare d) ∗ Ring.inflight (flightW0_0 c fh0) (Ring.sl 3 t.val) (Ring.bk 16 t.val) ∗ Ring.inflight (flightW0_0 c fh0) (Ring.sl 3 (t.val + 1)) (Ring.bk 16 (t.val + 1)) ∗ Ring.free (cellP0_0 c) (slotW0_0 c fh0) (Ring.sl 3 (t.val + 2)) ∗ Ring.inflight (flightW0_1 c fh1) (Ring.sl 3 t.val) (Ring.bk 16 t.val) ∗ Ring.inflight (flightW0_1 c fh1) (Ring.sl 3 (t.val + 1)) (Ring.bk 16 (t.val + 1)) ∗ Ring.free (cellP0_1 c) (slotW0_1 c fh1) (Ring.sl 3 (t.val + 2)) ∗ Ring.inflight (flightW0_2 c fh2) (Ring.sl 3 t.val) (Ring.bk 16 t.val) ∗ Ring.inflight (flightW0_2 c fh2) (Ring.sl 3 (t.val + 1)) (Ring.bk 16 (t.val + 1)) ∗ Ring.free (cellP0_2 c) (slotW0_2 c fh2) (Ring.sl 3 (t.val + 2)) ∗ owes (c : Thread nD τ) 0 W
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f L2) ∗ (∃ d, owns (c : Thread nD τ) arg10 fullShare d) ∗ (∃ d, owns (c : Thread nD τ) arg11 fullShare d) ∗ Ring.inflight (flightW0_0 c fh0) (Ring.sl 3 (t.val + 1)) (Ring.bk 16 (t.val + 1)) ∗ Ring.inflight (flightW0_0 c fh0) (Ring.sl 3 (t.val + 2)) (Ring.bk 16 (t.val + 2)) ∗ Ring.free (cellP0_0 c) (slotW0_0 c fh0) (Ring.sl 3 t.val) ∗ Ring.inflight (flightW0_1 c fh1) (Ring.sl 3 (t.val + 1)) (Ring.bk 16 (t.val + 1)) ∗ Ring.inflight (flightW0_1 c fh1) (Ring.sl 3 (t.val + 2)) (Ring.bk 16 (t.val + 2)) ∗ Ring.free (cellP0_1 c) (slotW0_1 c fh1) (Ring.sl 3 t.val) ∗ Ring.inflight (flightW0_2 c fh2) (Ring.sl 3 (t.val + 1)) (Ring.bk 16 (t.val + 1)) ∗ Ring.inflight (flightW0_2 c fh2) (Ring.sl 3 (t.val + 2)) (Ring.bk 16 (t.val + 2)) ∗ Ring.free (cellP0_2 c) (slotW0_2 c fh2) (Ring.sl 3 t.val) ∗ (∃ W', owes (c : Thread nD τ) 0 W')) -∗ K ⟨⟩))
          ⊢ wp frame (wpE (defs₀ (F := F)) Variants.none c none) Set.univ (cc0__attn_body (grid0.coords t) arg1 harg1 arg2 harg2 (Memref.whole main_call0_v0) (Memref.isWhole_whole _) (Memref.whole main_call0_v1) (Memref.isWhole_whole _) (Memref.whole main_call0_v2) (Memref.isWhole_whole _) arg6 harg6 scM0_0 (Memref.isWhole_whole _) scM0_1 (Memref.isWhole_whole _) scM0_2 (Memref.isWhole_whole _) arg10 harg10 arg11 harg11 cc0_scratch5) K } := by
  refine ⟨?_, fun W K => ?run⟩
  case run =>
    haveI : Fact (¬cond0_0 (grid0.coords t)) := ⟨hc0⟩
    haveI : Fact (cond0_1 (grid0.coords t)) := ⟨hc1⟩
    simp only [cc0__attn_body_eq_skeleton]; unfold cc0__attn_body_skel
    simp only [k0_part89_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    have hcanon0 := canon0_0_10 t
    have hcanon1 := canon0_1_10 t
    have hcanon2 := canon0_2_10 t
    unfold owns Ring.free Ring.inflight
    iintro ⟨⟨%f0, %hf0, H0⟩, ⟨%f1, %hf1, H1⟩, ⟨%d2, %f2, -, H2⟩, ⟨%ds3, %fs3, -, HS3⟩, ⟨%ds4, %fs4, -, HS4⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, ⟨%ff0_2_0, Hf0_2_0, Hrf0_2_0⟩, ⟨%ff0_2_1, Hf0_2_1, Hrf0_2_1⟩, ⟨Hc0_2_2, ⟨%fs0_2_2, Hs0_2_2, Hw0_2_2⟩⟩, HW, Hk⟩
    ihave Hsp0_0_2 := (src0_0_split c fh0 (Ring.sl 3 (t.val + 2)) (Ring.bk 16 (t.val + 2))).1 $$ Hw0_0_2
    icases Hsp0_0_2 with ⟨Hh0_0_2, Hr0_0_2⟩
    ihave Hsp0_1_2 := (src0_1_split c fh1 (Ring.sl 3 (t.val + 2)) (Ring.bk 16 (t.val + 2))).1 $$ Hw0_1_2
    icases Hsp0_1_2 with ⟨Hh0_1_2, Hr0_1_2⟩
    ihave Hsp0_2_2 := (src0_2_split c fh2 (Ring.sl 3 (t.val + 2)) (Ring.bk 16 (t.val + 2))).1 $$ Hw0_2_2
    icases Hsp0_2_2 with ⟨Hh0_2_2, Hr0_2_2⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS3]
    · iexists _, _; isplitr; swap; · iexact HS3
      ipureintro; rfl
    isplitl [HS4]
    · iexists _, _; isplitr; swap; · iexact HS4
      ipureintro; rfl
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 16 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 16 t.val)).2; isplitl [Hf0_1_0_src]; · iexact Hf0_1_0_src
      iexact Hrf0_1_0
    isplitl [Hf0_2_1 Hrf0_2_1]
    · iexists ff0_2_1; isplitl [Hf0_2_1]; · iexact Hf0_2_1
      iexact Hrf0_2_1
    isplitl [Hc0_2_2 Hr0_2_2]
    · iexists _; isplitl [Hc0_2_2]; · iexact Hc0_2_2
      iexact Hr0_2_2
    isplitl [Hf0_2_0 Hf0_2_0_dst Hf0_2_0_src Hrf0_2_0]
    · isplitl [Hf0_2_0]; · iexact Hf0_2_0
      iexists _; isplitl [Hf0_2_0_dst]; · iexact Hf0_2_0_dst
      iapply (src0_2_split c fh2 (Ring.sl 3 t.val) (Ring.bk 16 t.val)).2; isplitl [Hf0_2_0_src]; · iexact Hf0_2_0_src
      iexact Hrf0_2_0
    iexists _; iexact HW

end Cert.KernelIdeal.Run

end
-- ==== Proof.Ideal.RunC.lean ====
module

public import proofs.«01_k».proof.Proof.Ideal.RunB

@[expose] public section

-- the rectangles have long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 6460000 in
/-- What the body's stores leave in each output's staging memref, as pieces (last first) IN CASE C (`scf.if` 0 not taken, `scf.if` 1 not taken: points 14, 15), WITH the
    proof that on whole staging memrefs — the inputs' at their contents, the other outputs' at
    anything, the scratch buffers at anything, each ring's pieces for the point's role (the blocks it starts, still home at the operand's launch contents `fh·`; the flights it waits for; the free slots it fills: `pieces`), any other HBM operand whole and own cell at zero, and the core's `owes`, the body runs to the continuation holding the inputs' as they were,
    the scratch at some contents, each ring's pieces as the next point takes them (the block waited home again, the transfer started in flight, the slot read free), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : ¬cond0_0 (grid0.coords t)) (hc1 : ¬cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) :
    { L2 : List (View.Piece (Elt F) S1x2x2048x128 .f32) //
      ∀ (W : Waits sig Unit) (K : PUnit → sProp 𝕄),
        iprop(owns (c : Thread nD τ) arg1 fullShare x0 ∗ owns (c : Thread nD τ) arg2 fullShare x1 ∗ (∃ d, owns (c : Thread nD τ) arg6 fullShare d) ∗ (∃ d, owns (c : Thread nD τ) arg10 fullShare d) ∗ (∃ d, owns (c : Thread nD τ) arg11 fullShare d) ∗ Ring.inflight (flightW0_0 c fh0) (Ring.sl 3 t.val) (Ring.bk 16 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 3 t.val) (Ring.bk 16 t.val) ∗ Ring.slotAt 2 (cellP0_1 c) (slotW0_1 c fh1) (flightW0_1 c fh1) t.val 1 ∗ Ring.free (cellP0_1 c) (slotW0_1 c fh1) (Ring.sl 3 (t.val + 2)) ∗ Ring.inflight (flightW0_2 c fh2) (Ring.sl 3 t.val) (Ring.bk 16 t.val) ∗ Ring.slotAt 2 (cellP0_2 c) (slotW0_2 c fh2) (flightW0_2 c fh2) t.val 1 ∗ Ring.free (cellP0_2 c) (slotW0_2 c fh2) (Ring.sl 3 (t.val + 2)) ∗ owes (c : Thread nD τ) 0 W
            ∗ (iprop(owns (c : Thread nD τ) arg1 fullShare x0 ∗ owns (c : Thread nD τ) arg2 fullShare x1 ∗ (∃ f, arg6.view.loc (c : Thread nD τ) ↦[arg6.view.set]{fullShare} arg6.view.writes (Elt F) f L2) ∗ (∃ d, owns (c : Thread nD τ) arg10 fullShare d) ∗ (∃ d, owns (c : Thread nD τ) arg11 fullShare d) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.slotAt 2 (cellP0_1 c) (slotW0_1 c fh1) (flightW0_1 c fh1) t.val 1 ∗ Ring.free (cellP0_1 c) (slotW0_1 c fh1) (Ring.sl 3 (t.val + 2)) ∗ Ring.free (cellP0_1 c) (slotW0_1 c fh1) (Ring.sl 3 t.val) ∗ Ring.slotAt 2 (cellP0_2 c) (slotW0_2 c fh2) (flightW0_2 c fh2) t.val 1 ∗ Ring.free (cellP0_2 c) (slotW0_2 c fh2) (Ring.sl 3 (t.val + 2)) ∗ Ring.free (cellP0_2 c) (slotW0_2 c fh2) (Ring.sl 3 t.val) ∗ (∃ W', owes (c : Thread nD τ) 0 W')) -∗ K ⟨⟩))
          ⊢ wp frame (wpE (defs₀ (F := F)) Variants.none c none) Set.univ (cc0__attn_body (grid0.coords t) arg1 harg1 arg2 harg2 (Memref.whole main_call0_v0) (Memref.isWhole_whole _) (Memref.whole main_call0_v1) (Memref.isWhole_whole _) (Memref.whole main_call0_v2) (Memref.isWhole_whole _) arg6 harg6 scM0_0 (Memref.isWhole_whole _) scM0_1 (Memref.isWhole_whole _) scM0_2 (Memref.isWhole_whole _) arg10 harg10 arg11 harg11 cc0_scratch5) K } := by
  refine ⟨?_, fun W K => ?run⟩
  case run =>
    haveI : Fact (¬cond0_0 (grid0.coords t)) := ⟨hc0⟩
    haveI : Fact (¬cond0_1 (grid0.coords t)) := ⟨hc1⟩
    simp only [cc0__attn_body_eq_skeleton]; unfold cc0__attn_body_skel
    simp only [k0_part89_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    have hcanon0 := canon0_0_10 t
    have hcanon1 := canon0_1_10 t
    have hcanon2 := canon0_2_10 t
    unfold owns Ring.free Ring.inflight
    iintro ⟨⟨%f0, %hf0, H0⟩, ⟨%f1, %hf1, H1⟩, ⟨%d2, %f2, -, H2⟩, ⟨%ds3, %fs3, -, HS3⟩, ⟨%ds4, %fs4, -, HS4⟩, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, ⟨%ff0_2_0, Hf0_2_0, Hrf0_2_0⟩, Hro0_2_1, ⟨Hc0_2_2, ⟨%fs0_2_2, Hs0_2_2, Hw0_2_2⟩⟩, HW, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [HS3]
    · iexists _, _; isplitr; swap; · iexact HS3
      ipureintro; rfl
    isplitl [HS4]
    · iexists _, _; isplitr; swap; · iexact HS4
      ipureintro; rfl
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 16 t.val)).2; isplitl [Hf0_0_0_src]; · iexact Hf0_0_0_src
      iexact Hrf0_0_0
    isplitl [Hro0_1_1]; · iexact Hro0_1_1
    isplitl [Hc0_1_2 Hs0_1_2 Hw0_1_2]
    · isplitl [Hc0_1_2]; · iexact Hc0_1_2
      iexists _; isplitl [Hs0_1_2]; · iexact Hs0_1_2
      iexact Hw0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 16 t.val)).2; isplitl [Hf0_1_0_src]; · iexact Hf0_1_0_src
      iexact Hrf0_1_0
    isplitl [Hro0_2_1]; · iexact Hro0_2_1
    isplitl [Hc0_2_2 Hs0_2_2 Hw0_2_2]
    · isplitl [Hc0_2_2]; · iexact Hc0_2_2
      iexists _; isplitl [Hs0_2_2]; · iexact Hs0_2_2
      iexact Hw0_2_2
    isplitl [Hf0_2_0 Hf0_2_0_dst Hf0_2_0_src Hrf0_2_0]
    · isplitl [Hf0_2_0]; · iexact Hf0_2_0
      iexists _; isplitl [Hf0_2_0_dst]; · iexact Hf0_2_0_dst
      iapply (src0_2_split c fh2 (Ring.sl 3 t.val) (Ring.bk 16 t.val)).2; isplitl [Hf0_2_0_src]; · iexact Hf0_2_0_src
      iexact Hrf0_2_0
    iexists _; iexact HW

end Cert.KernelIdeal.Run

end
-- ==== Proof.Value.Pieces.lean ====
/- What one point's body stores, listed: the gathered stripe rows in the two scratch buffers and the 32 output tiles, each
   as a piece over one reading of the landed blocks. The three cases' runs leave exactly this list. -/
module

public import proofs.«01_k».proof.Proof.Value.Tile
public import proofs.«01_k».proof.Proof.Ideal.RunC

@[expose] public section

set_option maxRecDepth 16384

noncomputable section

namespace Cert.KernelIdeal.Tile

open Cert.KernelIdeal Cert.KernelIdeal.Gen Cert.KernelIdeal.Run
open Idealize.ShloMosaic Idealize.ShloMosaic.TcCoe

variable {F : FTy → Type} [FloatOps F]

/-- `n` rows of batch row `h` from row `r` on, read through `M` where the block `W` has landed. -/
def rd (M : Memref sig .tc .vmem S2x2048x128 .f32) (W : Vec F S2x2048x128 .f32) (n h r : ℕ)
    (hb : ∀ a, (![h, r, 0] : Fin 3 → ℕ) a + (![1, n, 128] : Fin 3 → ℕ) a ≤ S2x2048x128.size a) : Vec F (SK n) .f32 :=
  M.view.readCov [⟨Rect.whole S2x2048x128, W⟩] (Rect.unit (s := S2x2048x128) ![h, r, 0] ![1, n, 128] hb).toLoadRect

/-- A box of `n` rows lies in a stack of two planes. -/
theorem rows_inb {h r n N : ℕ} (hh : h < 2) (hr : r + n ≤ N) :
    ∀ a, (![h, r, 0] : Fin 3 → ℕ) a + (![1, n, 128] : Fin 3 → ℕ) a ≤ (![2, N, 128] : Fin 3 → ℕ) a := by
  intro a; fin_cases a
  · show h + 1 ≤ 2; omega
  · exact hr
  · exact le_rfl

/-- A tile lies in the output block. -/
theorem tile_inb {h r : ℕ} (hh : h < 2) (hr : r + 128 ≤ 2048) :
    ∀ a, (![0, h, r, 0] : Fin 4 → ℕ) a + (![1, 1, 128, 128] : Fin 4 → ℕ) a ≤ S1x2x2048x128.size a := by
  intro a; fin_cases a
  · exact le_rfl
  · show h + 1 ≤ 2; omega
  · exact hr
  · exact le_rfl

/-- A row of the stripe bias, its first `w` columns. -/
theorem bias_inb {t w : ℕ} (ht : t < 16) (hw : w ≤ 512) :
    ∀ a, (![t, 0] : Fin 2 → ℕ) a + (![1, w] : Fin 2 → ℕ) a ≤ S16x512.size a := by
  intro a; fin_cases a
  · show t + 1 ≤ 16; omega
  · show 0 + w ≤ 512; omega

/-- The `n`-th stripe copy of the keys: rows `64 (n % 32) + 48 …` of batch row `n / 32` to rows `16 (n % 32) …`. -/
def gatherK (M : Memref sig .tc .vmem S2x2048x128 .f32) (W : Vec F S2x2048x128 .f32) (n : ℕ) :
    View.Piece (Elt F) S2x512x128 .f32 :=
  ⟨Rect.unit (s := S2x512x128) ![n / 32 % 2, 16 * (n % 32), 0] ![1, 16, 128] (rows_inb (by omega) (by omega)),
    shapeCast S1x16x128 (shapeCast S16x128 (rd M W 16 (n / 32 % 2) (64 * (n % 32) + 48) (rows_inb (by omega) (by omega)))
      shapeCasts_S1x16x128_S16x128) shapeCasts_S16x128_S1x16x128⟩

/-- The `n`-th stripe copy of the values, narrowed on the way. -/
def gatherV (M : Memref sig .tc .vmem S2x2048x128 .f32) (W : Vec F S2x2048x128 .f32) (n : ℕ) :
    View.Piece (Elt F) S2x512x128 .bf16 :=
  ⟨Rect.unit (s := S2x512x128) ![n / 32 % 2, 16 * (n % 32), 0] ![1, 16, 128] (rows_inb (by omega) (by omega)),
    shapeCast S1x16x128 (truncf .bf16 (shapeCast S16x128 (rd M W 16 (n / 32 % 2) (64 * (n % 32) + 48) (rows_inb (by omega) (by omega)))
      shapeCasts_S1x16x128_S16x128) bitsLt_bf16_f32) shapeCasts_S16x128_S1x16x128⟩

/-- The first `n` of a sequence of pieces, the last one first. -/
def upTo {s : Shape} {e : EltTy} (p : ℕ → View.Piece (Elt F) s e) : ℕ → List (View.Piece (Elt F) s e)
  | 0 => []
  | n + 1 => p n :: upTo p n

/-- The operations' shape facts for one stripe width. -/
structure Width (w : ℕ) : Type where
  le : w ≤ 512
  dk : DotDims S128x128 (SM w) (SW w)
  dv : DotDims (SW w) (SM w) S128x128
  hk : (SK w).ShapeCasts (SM w)
  hb : (⟨2, ![1, w]⟩ : Shape).Broadcasts (SW w)
  hr : (SW w).Reduces [1] S128
  hc : S128x1.Broadcasts (SW w)
  str : StrAt w dk hk hb
  tile : TileAt w hr hc dv hk

/-- The facts at width 128. -/
def w128 : Width 128 := ⟨by decide, _, _, _, _, _, _, str_128, tile_128⟩
/-- The facts at width 256. -/
def w256 : Width 256 := ⟨by decide, _, _, _, _, _, _, str_256, tile_256⟩
/-- The facts at width 384. -/
def w384 : Width 384 := ⟨by decide, _, _, _, _, _, _, str_384, tile_384⟩
/-- The facts at width 512. -/
def w512 : Width 512 := ⟨by decide, _, _, _, _, _, _, str_512, tile_512⟩

/-- The rows of one tile of a landed block: tile `n / 2` of batch row `n % 2`. -/
def rows (M : Memref sig .tc .vmem S2x2048x128 .f32) (W : Vec F S2x2048x128 .f32) (n : ℕ) : Vec F S1x128x128 .f32 :=
  rd M W 128 (n % 2) (128 * (n / 2 % 16)) (rows_inb (by omega) (by omega))

/-- The first `w` gathered rows of the tile's batch row. -/
def stripe {e : EltTy} (M : Memref sig .tc .vmem S2x512x128 e) (L : List (View.Piece (Elt F) S2x512x128 e)) (w : ℕ) (hw : w ≤ 512)
    (n : ℕ) : Vec F (SK w) e :=
  M.view.readCov L (Rect.unit (s := S2x512x128) ![n % 2, 0, 0] ![1, w, 128] (rows_inb (by omega) (by omega))).toLoadRect

section Tiles

variable (m0 m1 m2 : Memref sig .tc .vmem S2x2048x128 .f32) (s0 : Memref sig .tc .vmem S2x512x128 .f32)
  (s1 : Memref sig .tc .vmem S2x512x128 .bf16) (Q K V : Vec F S2x2048x128 .f32) (bl : Vec F S128x128 .f32)
  (bs : (w r : ℕ) → (∀ a, (![r, 0] : Fin 2 → ℕ) a + (![1, w] : Fin 2 → ℕ) a ≤ S16x512.size a) → Vec F ⟨2, ![1, w]⟩ .f32)

/-- The output tile of `n` with no stripe. -/
def ownOut (n : ℕ) : FVec F S1x1x128x128 .f32 :=
  tileOwn (scoreLoc bl (rows m0 Q n) (rows m1 K n)) (rows m2 V n)

/-- The output tile of `n` with a stripe of `w` rows. -/
def strOut {w : ℕ} (W : Width w) (n : ℕ) : FVec F S1x1x128x128 .f32 :=
  tileStr w W.hr W.hc W.dv W.hk (scoreLoc bl (rows m0 Q n) (rows m1 K n))
    (scoreStr w W.dk W.hk W.hb (bs w (n / 2 % 16) (bias_inb (by omega) W.le)) (rows m0 Q n)
      (stripe s0 (upTo (gatherK m1 K) 64) w W.le n))
    (rows m2 V n) (stripe s1 (upTo (gatherV m2 V) 64) w W.le n)

/-- The output tile of `n`: its stripe is as wide as its row of tiles asks, in steps of 128. -/
def outTile (n : ℕ) : FVec F S1x1x128x128 .f32 :=
  match (n / 2 % 16 + 3) / 4 with
  | 0 => ownOut m0 m1 m2 Q K V bl n
  | 1 => strOut m0 m1 m2 s0 s1 Q K V bl bs w128 n
  | 2 => strOut m0 m1 m2 s0 s1 Q K V bl bs w256 n
  | 3 => strOut m0 m1 m2 s0 s1 Q K V bl bs w384 n
  | _ => strOut m0 m1 m2 s0 s1 Q K V bl bs w512 n

/-- The `n`-th store to the output block. -/
def outPiece (n : ℕ) : View.Piece (Elt F) S1x2x2048x128 .f32 :=
  ⟨Rect.unit (s := S1x2x2048x128) ![0, n % 2, 128 * (n / 2 % 16), 0] ![1, 1, 128, 128] (tile_inb (by omega) (by omega)),
    outTile m0 m1 m2 s0 s1 Q K V bl bs n⟩

end Tiles

/-- What point `t`'s body stores, its operands' launch contents being `f0`, `f1`, `f2`. -/
def stores (c : Dev nD) (t : Fin cfg0.N) (arg1 : Memref sig .tc .vmem S128x128 .f32) (harg1 : arg1.IsWhole)
    (arg2 : Memref sig .tc .vmem S16x512 .f32) (harg2 : arg2.IsWhole) (arg10 : Memref sig .tc .vmem S2x512x128 .f32)
    (arg11 : Memref sig .tc .vmem S2x512x128 .bf16) (x0 : Vec F S128x128 .f32) (x1 : Vec F S16x512 .f32)
    (f0 : HbBuf0 (F := F) c hbM0_0) (f1 : HbBuf0 (F := F) c hbM0_1) (f2 : HbBuf0 (F := F) c hbM0_2) :
    List (View.Piece (Elt F) S1x2x2048x128 .f32) :=
  upTo (outPiece (rslot0_0 (Ring.sl 3 t.val)) (rslot0_1 (Ring.sl 3 t.val)) (rslot0_2 (Ring.sl 3 t.val)) arg10 arg11
    (ReadAs.same.apply (View.read (Elt F) (srcB0_0 (Ring.bk 16 t.val)).view f0))
    (ReadAs.same.apply (View.read (Elt F) (srcB0_1 (Ring.bk 16 t.val)).view f1))
    (ReadAs.same.apply (View.read (Elt F) (srcB0_2 (Ring.bk 16 t.val)).view f2))
    (View.readAt (Elt F) arg1.view (Rect.unit (s := S128x128) ![0, 0] S128x128.size inb_S128x128_S128x128_0_0).toLoadRect (harg1.unread x0))
    (fun w r h => View.readAt (Elt F) arg2.view (Rect.unit (s := S16x512) ![r, 0] ![1, w] h).toLoadRect (harg2.unread x1))) 32

section Cases

variable (c : Dev nD) (t : Fin cfg0.N) (arg1 : Memref sig .tc .vmem S128x128 .f32) (harg1 : arg1.IsWhole)
  (arg2 : Memref sig .tc .vmem S16x512 .f32) (harg2 : arg2.IsWhole) (arg6 : Memref sig .tc .vmem S1x2x2048x128 .f32) (harg6 : arg6.IsWhole)
  (arg10 : Memref sig .tc .vmem S2x512x128 .f32) (harg10 : arg10.IsWhole) (arg11 : Memref sig .tc .vmem S2x512x128 .bf16) (harg11 : arg11.IsWhole)
  (x0 : Vec F S128x128 .f32) (x1 : Vec F S16x512 .f32)
  (f0 : HbBuf0 (F := F) c hbM0_0) (f1 : HbBuf0 (F := F) c hbM0_1) (f2 : HbBuf0 (F := F) c hbM0_2)

/-- Case B's run leaves this list. -/
theorem stores_B (hc0 : ¬cond0_0 (grid0.coords t)) (hc1 : cond0_1 (grid0.coords t)) :
    (kernelRun0_B c t arg1 harg1 arg2 harg2 arg6 harg6 arg10 harg10 arg11 harg11 hc0 hc1 x0 x1 f0 f1 f2).1
      = stores c t arg1 harg1 arg2 harg2 arg10 arg11 x0 x1 f0 f1 f2 := by
  unfold kernelRun0_B
  dsimp only
  rfl

set_option maxHeartbeats 4000000 in
/-- So does case A's. -/
theorem stores_A (hc0 : cond0_0 (grid0.coords t)) (hc1 : cond0_1 (grid0.coords t)) :
    (kernelRun0_A c t arg1 harg1 arg2 harg2 arg6 harg6 arg10 harg10 arg11 harg11 hc0 hc1 x0 x1 f0 f1 f2).1
      = stores c t arg1 harg1 arg2 harg2 arg10 arg11 x0 x1 f0 f1 f2 := by
  unfold kernelRun0_A
  dsimp only
  rfl

set_option maxHeartbeats 4000000 in
/-- So does case C's. -/
theorem stores_C (hc0 : ¬cond0_0 (grid0.coords t)) (hc1 : ¬cond0_1 (grid0.coords t)) :
    (kernelRun0_C c t arg1 harg1 arg2 harg2 arg6 harg6 arg10 harg10 arg11 harg11 hc0 hc1 x0 x1 f0 f1 f2).1
      = stores c t arg1 harg1 arg2 harg2 arg10 arg11 x0 x1 f0 f1 f2 := by
  unfold kernelRun0_C
  dsimp only
  rfl

end Cases

end Cert.KernelIdeal.Tile

end
-- ==== Proof.Value.Block.lean ====
/- What one block of the kernel holds at the end of its point: at every index, the attention of one query row over its own
   128 keys and over the stripe rows its row of tiles asks for. -/
module

public import proofs.«01_k».proof.Proof.Value.Pieces
public import Idealize.ShloMosaic.Lib.Pipeline.ValueKit.Tiles
public import Idealize.ShloMosaic.Lib.WholeRead

@[expose] public section

set_option maxRecDepth 16384

noncomputable section

namespace Cert.KernelIdeal.Tile

open Cert.KernelIdeal Cert.KernelIdeal.Gen Cert.KernelIdeal.Run Cert.Soft
open Idealize.ShloMosaic Idealize.ShloMosaic.TcCoe

/-! ## Reading the landed blocks -/

/-- A buffer written whole holds what was written. -/
theorem canon_whole {S : Shape} {e : EltTy} (W : S.Idx → Elt Ideal e) :
    View.canon (Val := Elt Ideal) [⟨Rect.whole S, W⟩] = W := by
  funext y
  have h := View.canon_cons_emb (Val := Elt Ideal) (Rect.whole S) W [] y
  rw [Rect.emb_whole_apply] at h
  exact h

/-- Rows of a landed block, at an index. -/
theorem rd_at (M : Memref sig .tc .vmem S2x2048x128 .f32) (W : Vec Ideal S2x2048x128 .f32) (n h r : ℕ)
    (hb : ∀ a, (![h, r, 0] : Fin 3 → ℕ) a + (![1, n, 128] : Fin 3 → ℕ) a ≤ S2x2048x128.size a)
    (i : Fin n) (c : Fin 128) (hh : Fin 2) (R : Fin 2048) (eh : h = hh.val) (er : r + i.val = R.val) :
    rd (F := Ideal) M W n h r hb (ix3 0 i c) = W (ix3 hh R c) := by
  unfold rd
  rw [View.readCov_eq_canon', canon_whole]
  refine congrArg W (funext fun a => Fin.ext ?_)
  rw [show ∀ (B : Rect S2x2048x128) (x), B.toLoadRect.idx x = B.idx x from fun _ _ => rfl, Rect.idx_unit_val]
  fin_cases a
  · show h + 0 = hh.val; omega
  · exact er
  · show 0 + c.val = c.val; omega

/-- The row of the operands where column `x` of the stripe comes from: the last block of the window of `x`'s block. -/
def srow (x : ℕ) : Fin 2048 := ⟨(64 * (x / 16) + 48 + x % 16) % 2048, by omega⟩

/-- Row `x` of tile `t`. -/
def trow (t x : ℕ) : Fin 2048 := ⟨(128 * t + x) % 2048, by omega⟩

/-- What the gathered rows of an operand block hold. -/
def gathered (W : Vec Ideal S2x2048x128 .f32) (y : S2x512x128.Idx) : EReal := W (ix3 (y 0) (srow (y 1).val) (y 2))

/-- A member of the first `n` pieces is one of them. -/
theorem mem_upTo {s : Shape} {e : EltTy} {p : ℕ → View.Piece (Elt Ideal) s e} {n : ℕ} {q : View.Piece (Elt Ideal) s e} :
    q ∈ upTo p n ↔ ∃ k < n, q = p k := by
  induction n with
  | zero => simp [upTo]
  | succ n ih =>
    rw [upTo, List.mem_cons, ih]
    constructor
    · rintro (rfl | ⟨k, hk, rfl⟩)
      · exact ⟨n, by omega, rfl⟩
      · exact ⟨k, by omega, rfl⟩
    · rintro ⟨k, hk, rfl⟩
      rcases Nat.lt_succ_iff_lt_or_eq.1 hk with h | rfl
      · exact .inr ⟨k, h, rfl⟩
      · exact .inl rfl

/-- The pieces are the blocks of one function `G`, and together they cover the buffer: they hold `G`. -/
theorem canon_upTo {s : Shape} {e : EltTy} (p : ℕ → View.Piece (Elt Ideal) s e) (n : ℕ) (G : s.Idx → Elt Ideal e)
    (h : ∀ k, ∀ x, (p k).2 x = G ((p k).1.emb x)) (hc : ∀ y : s.Idx, ∃ k < n, y ∈ (p k).1.set) :
    View.canon (upTo p n) = G := by
  funext y
  refine View.canon_apply_of_pieces G _ (fun q hq x => ?_) y ?_
  · obtain ⟨k, -, rfl⟩ := mem_upTo.1 hq
    exact h k x
  · obtain ⟨k, hk, hy⟩ := hc y
    exact ⟨_, mem_upTo.2 ⟨k, hk, rfl⟩, hy⟩

/-- A stripe copy's payload at an index, the keys'. -/
theorem copyK_at (v : Vec Ideal S1x16x128 .f32) (i : Fin 16) (c : Fin 128) :
    shapeCast S1x16x128 (shapeCast S16x128 v shapeCasts_S1x16x128_S16x128) shapeCasts_S16x128_S1x16x128 (ix3 0 i c) = v (ix3 0 i c) := by
  pointwise []

/-- A stripe copy's payload at an index, the values'. -/
theorem copyV_at (v : Vec Ideal S1x16x128 .f32) (i : Fin 16) (c : Fin 128) :
    shapeCast S1x16x128 (truncf (F := Ideal) .bf16 (shapeCast S16x128 v shapeCasts_S1x16x128_S16x128) bitsLt_bf16_f32)
      shapeCasts_S16x128_S1x16x128 (ix3 0 i c) = v (ix3 0 i c) := by
  pointwise []

/-- A stripe copy's box covers its rows: every gathered row lies in one of the 64. -/
theorem gather_cover (y : S2x512x128.Idx) : ∃ k < 64,
    y ∈ (Rect.unit (s := S2x512x128) ![k / 32 % 2, 16 * (k % 32), 0] ![1, 16, 128] (rows_inb (by omega) (by omega))).set := by
  have h0 : (y 0).val < 2 := (y 0).isLt
  have h1 : (y 1).val < 512 := (y 1).isLt
  have h2 : (y 2).val < 128 := (y 2).isLt
  refine ⟨32 * (y 0).val + (y 1).val / 16, by omega, Rect.mem_set_unit.2 fun a => ?_⟩
  fin_cases a
  · show (32 * (y 0).val + (y 1).val / 16) / 32 % 2 ≤ (y 0).val ∧ (y 0).val < (32 * (y 0).val + (y 1).val / 16) / 32 % 2 + 1
    omega
  · show 16 * ((32 * (y 0).val + (y 1).val / 16) % 32) ≤ (y 1).val ∧ (y 1).val < 16 * ((32 * (y 0).val + (y 1).val / 16) % 32) + 16
    omega
  · show 0 ≤ (y 2).val ∧ (y 2).val < 0 + 128
    omega

/-- The rows of the operand that a stripe copy reads are those its box asks for. -/
theorem gather_rows (M : Memref sig .tc .vmem S2x2048x128 .f32) (W : Vec Ideal S2x2048x128 .f32) (k : ℕ) (i : Fin 16) (c : Fin 128)
    (y : S2x512x128.Idx) (h0 : (y 0).val = k / 32 % 2) (h1 : (y 1).val = 16 * (k % 32) + i.val) (h2 : (y 2).val = c.val) :
    rd (F := Ideal) M W 16 (k / 32 % 2) (64 * (k % 32) + 48) (rows_inb (by omega) (by omega)) (ix3 0 i c) = gathered W y := by
  have hi := i.isLt
  rw [rd_at M W 16 _ _ _ i c (y 0) (srow (y 1).val) h0.symm (by
    show 64 * (k % 32) + 48 + i.val = (64 * ((y 1).val / 16) + 48 + (y 1).val % 16) % 2048
    rw [h1]; omega)]
  have e : c = y 2 := Fin.ext h2.symm
  rw [e]; rfl

/-- Where a stripe copy's box puts its rows. -/
theorem gather_emb (k : ℕ) (i : Fin 16) (c : Fin 128) (a : Fin 3) :
    ((Rect.unit (s := S2x512x128) ![k / 32 % 2, 16 * (k % 32), 0] ![1, 16, 128] (rows_inb (by omega) (by omega))).emb (ix3 0 i c) a).val
      = (![k / 32 % 2, 16 * (k % 32) + i.val, c.val] : Fin 3 → ℕ) a := by
  rw [show ∀ (B : Rect S2x512x128) (x), B.emb x = B.idx x from fun _ _ => rfl, Rect.idx_unit_val]
  fin_cases a
  · rfl
  · rfl
  · show 0 + c.val = c.val; omega

/-- The gathered keys. -/
theorem canon_gatherK (M : Memref sig .tc .vmem S2x2048x128 .f32) (W : Vec Ideal S2x2048x128 .f32) :
    View.canon (upTo (gatherK M W) 64) = gathered W := by
  refine canon_upTo _ _ _ (fun k x => ?_) gather_cover
  idx_vars x
  obtain rfl : x0 = 0 := Subsingleton.elim _ _
  exact (copyK_at _ _ _).trans (gather_rows M W k _ _ _ (gather_emb k _ _ 0) (gather_emb k _ _ 1) (gather_emb k _ _ 2))

/-- The gathered values. -/
theorem canon_gatherV (M : Memref sig .tc .vmem S2x2048x128 .f32) (W : Vec Ideal S2x2048x128 .f32) :
    View.canon (upTo (gatherV (F := Ideal) M W) 64) = (gathered W : S2x512x128.Idx → Elt Ideal .bf16) := by
  refine canon_upTo (e := .bf16) _ _ _ (fun k x => ?_) gather_cover
  idx_vars x
  obtain rfl : x0 = 0 := Subsingleton.elim _ _
  have e := (copyV_at (rd (F := Ideal) M W 16 (k / 32 % 2) (64 * (k % 32) + 48) (rows_inb (by omega) (by omega))) x1 x2).trans
    (gather_rows M W k _ _ _ (gather_emb k _ _ 0) (gather_emb k _ _ 1) (gather_emb k _ _ 2))
  exact e

/-- A row of the stripe as the tile reads it. -/
theorem stripe_at {e : EltTy} (M : Memref sig .tc .vmem S2x512x128 e) (L : List (View.Piece (Elt Ideal) S2x512x128 e)) (w : ℕ)
    (hw : w ≤ 512) (n : ℕ) (i : Fin w) (c : Fin 128) :
    stripe (F := Ideal) M L w hw n (ix3 0 i c)
      = View.canon L (ix3 (⟨n % 2, by omega⟩ : Fin 2) (⟨i.val, by omega⟩ : Fin 512) c) := by
  unfold stripe
  rw [View.readCov_eq_canon']
  refine congrArg (View.canon L) (funext fun a => Fin.ext ?_)
  rw [show ∀ (B : Rect S2x512x128) (x), B.toLoadRect.idx x = B.idx x from fun _ _ => rfl, Rect.idx_unit_val]
  fin_cases a
  · rfl
  · show 0 + i.val = i.val; omega
  · show 0 + c.val = c.val; omega

/-! ## The tiles -/

/-- Query row `i` of tile `t` of batch row `hh` against the operand row `R`: the scaled products summed. -/
def score (Q K : Vec Ideal S2x2048x128 .f32) (hh : Fin 2) (P R : Fin 2048) : EReal :=
  ∑ x : Fin 128, Q (ix3 hh P x) * scale * K (ix3 hh R x)

/-- What a tile holds at row `i`, column `c`, with `w` stripe rows. -/
def tileVal (w : ℕ) (Q K V : Vec Ideal S2x2048x128 .f32) (bl : Vec Ideal S128x128 .f32) (bs : Vec Ideal S16x512 .f32) (hh : Fin 2)
    (t : ℕ) (i c : Fin 128) : EReal :=
  attn (fun x : Fin 128 => score Q K hh (trow t i.val) (trow t x.val) + bl (ix2 i x)) (fun x => V (ix3 hh (trow t x.val) c))
    (fun x : Fin w => score Q K hh (trow t i.val) (srow x.val)
      + bs (ix2 (⟨t % 16, by omega⟩ : Fin 16) (⟨x.val % 512, by omega⟩ : Fin 512)))
    (fun x => V (ix3 hh (srow x.val) c))

section Tiles

variable (m0 m1 m2 : Memref sig .tc .vmem S2x2048x128 .f32) (s0 : Memref sig .tc .vmem S2x512x128 .f32)
  (s1 : Memref sig .tc .vmem S2x512x128 .bf16) (Q K V : Vec Ideal S2x2048x128 .f32) (bl : Vec Ideal S128x128 .f32)
  (bs : (w r : ℕ) → (∀ a, (![r, 0] : Fin 2 → ℕ) a + (![1, w] : Fin 2 → ℕ) a ≤ S16x512.size a) → Vec Ideal ⟨2, ![1, w]⟩ .f32)
  (B : Vec Ideal S16x512 .f32)

/-- A row of a tile's own block. -/
theorem rows_at (M : Memref sig .tc .vmem S2x2048x128 .f32) (W : Vec Ideal S2x2048x128 .f32) (n : ℕ) (i c : Fin 128) :
    rows (F := Ideal) M W n (ix3 0 i c) = W (ix3 (⟨n % 2, by omega⟩ : Fin 2) (trow (n / 2 % 16) i.val) c) := by
  have hi := i.isLt
  exact rd_at M W 128 _ _ _ i c _ _ rfl (by
    show 128 * (n / 2 % 16) + i.val = (128 * (n / 2 % 16) + i.val) % 2048; omega)

/-- A tile's local score. -/
theorem loc_at (n : ℕ) (i x : Fin 128) :
    scoreLoc (F := Ideal) bl (rows m0 Q n) (rows m1 K n) (ix2 i x)
      = score Q K ⟨n % 2, by omega⟩ (trow (n / 2 % 16) i.val) (trow (n / 2 % 16) x.val) + bl (ix2 i x) := by
  rw [scoreLoc_at]
  simp only [rows_at, score]

/-- A tile with no stripe. -/
theorem ownOut_at (n : ℕ) (i c : Fin 128) (ht : (n / 2 % 16 + 3) / 4 = 0) :
    ownOut (F := Ideal) m0 m1 m2 Q K V bl n (ix4 0 0 i c) = tileVal 0 Q K V bl B ⟨n % 2, by omega⟩ (n / 2 % 16) i c := by
  unfold ownOut tileVal
  rw [own_at _ _ (fun x => x.elim0) (fun x => x.elim0)]
  simp only [loc_at, rows_at]
  congr 1 <;> exact funext fun x => x.elim0

/-- A tile with a stripe of `w` rows. -/
theorem strOut_at {w : ℕ} (W : Width w) (n : ℕ) (i c : Fin 128)
    (hB : ∀ (r : Fin 16) h (x : Fin w), bs w r.val h (ix2 0 x) = B (ix2 r (⟨x.val % 512, by omega⟩ : Fin 512))) :
    strOut (F := Ideal) m0 m1 m2 s0 s1 Q K V bl bs W n (ix4 0 0 i c)
      = tileVal w Q K V bl B ⟨n % 2, by omega⟩ (n / 2 % 16) i c := by
  unfold strOut tileVal
  rw [W.tile]
  have hB' : ∀ x : Fin w, bs w (n / 2 % 16) (bias_inb (by omega) W.le) (ix2 0 x)
      = B (ix2 (⟨n / 2 % 16 % 16, by omega⟩ : Fin 16) (⟨x.val % 512, by omega⟩ : Fin 512)) := fun x => by
    rw [hB ⟨n / 2 % 16, by omega⟩]
    congr 2
    exact Fin.ext (by show n / 2 % 16 = n / 2 % 16 % 16; omega)
  simp only [loc_at, rows_at, W.str _ _ _ _ _, stripe_at, canon_gatherK, canon_gatherV, hB', score, gathered]
  rfl

/-- The output tile of `n`. -/
theorem outTile_at (n : ℕ) (i c : Fin 128)
    (hB : ∀ (w : ℕ) (r : Fin 16) h (x : Fin w), bs w r.val h (ix2 0 x) = B (ix2 r (⟨x.val % 512, by omega⟩ : Fin 512))) :
    outTile (F := Ideal) m0 m1 m2 s0 s1 Q K V bl bs n (ix4 0 0 i c)
      = tileVal (128 * ((n / 2 % 16 + 3) / 4)) Q K V bl B ⟨n % 2, by omega⟩ (n / 2 % 16) i c := by
  unfold outTile
  have h4 : (n / 2 % 16 + 3) / 4 ≤ 4 := by omega
  generalize hk : (n / 2 % 16 + 3) / 4 = k at h4 ⊢
  obtain rfl | rfl | rfl | rfl | rfl : k = 0 ∨ k = 1 ∨ k = 2 ∨ k = 3 ∨ k = 4 := by omega
  · exact ownOut_at m0 m1 m2 Q K V bl B n i c hk
  · exact strOut_at m0 m1 m2 s0 s1 Q K V bl bs B w128 n i c (hB _)
  · exact strOut_at m0 m1 m2 s0 s1 Q K V bl bs B w256 n i c (hB _)
  · exact strOut_at m0 m1 m2 s0 s1 Q K V bl bs B w384 n i c (hB _)
  · exact strOut_at m0 m1 m2 s0 s1 Q K V bl bs B w512 n i c (hB _)

/-- Where an output tile's box puts its elements. -/
theorem tile_emb (k : ℕ) (i c : Fin 128) (a : Fin 4) :
    ((Rect.unit (s := S1x2x2048x128) ![0, k % 2, 128 * (k / 2 % 16), 0] ![1, 1, 128, 128] (tile_inb (by omega) (by omega))).emb
        (ix4 0 0 i c) a).val
      = (![0, k % 2, 128 * (k / 2 % 16), 0] : Fin 4 → ℕ) a + ((ix4 0 0 i c : (⟨4, ![1, 1, 128, 128]⟩ : Shape).Idx) a).val := by
  rw [show ∀ (B : Rect S1x2x2048x128) (x), B.emb x = B.idx x from fun _ _ => rfl, Rect.idx_unit_val]

/-- Every element of the output block lies in one of the 32 tiles. -/
theorem tile_cover (y : S1x2x2048x128.Idx) : ∃ k < 32, y ∈ (Rect.unit (s := S1x2x2048x128) ![0, k % 2, 128 * (k / 2 % 16), 0]
    ![1, 1, 128, 128] (tile_inb (by omega) (by omega))).set := by
  have h0 : (y 0).val < 1 := (y 0).isLt
  have h1 : (y 1).val < 2 := (y 1).isLt
  have h2 : (y 2).val < 2048 := (y 2).isLt
  have h3 : (y 3).val < 128 := (y 3).isLt
  refine ⟨2 * ((y 2).val / 128) + (y 1).val, by omega, Rect.mem_set_unit.2 fun a => ?_⟩
  fin_cases a
  · show 0 ≤ (y 0).val ∧ (y 0).val < 0 + 1
    omega
  · show (2 * ((y 2).val / 128) + (y 1).val) % 2 ≤ (y 1).val ∧ (y 1).val < (2 * ((y 2).val / 128) + (y 1).val) % 2 + 1
    omega
  · show 128 * ((2 * ((y 2).val / 128) + (y 1).val) / 2 % 16) ≤ (y 2).val
      ∧ (y 2).val < 128 * ((2 * ((y 2).val / 128) + (y 1).val) / 2 % 16) + 128
    omega
  · show 0 ≤ (y 3).val ∧ (y 3).val < 0 + 128
    omega

/-- What the output block holds: tile `R / 128` of the batch row, at row `R % 128` of it. -/
def blockVal (y : S1x2x2048x128.Idx) : EReal :=
  tileVal (128 * (((y 2).val / 128 + 3) / 4)) Q K V bl B (y 1) ((y 2).val / 128) ⟨(y 2).val % 128, by omega⟩ (y 3)

/-- The 32 stores of a point leave the block. -/
theorem canon_out
    (hB : ∀ (w : ℕ) (r : Fin 16) h (x : Fin w), bs w r.val h (ix2 0 x) = B (ix2 r (⟨x.val % 512, by omega⟩ : Fin 512))) :
    View.canon (upTo (outPiece m0 m1 m2 s0 s1 Q K V bl bs) 32) = blockVal Q K V bl B := by
  refine canon_upTo _ _ _ (fun k x => ?_) fun y => ?_
  · idx_vars x
    obtain rfl : x0 = 0 := Subsingleton.elim _ _
    obtain rfl : x1 = 0 := Subsingleton.elim _ _
    generalize x2 = i
    generalize x3 = c
    refine (outTile_at m0 m1 m2 s0 s1 Q K V bl bs B k i c hB).trans ?_
    have hi := i.isLt
    generalize hy : (outPiece (F := Ideal) m0 m1 m2 s0 s1 Q K V bl bs k).1.emb (ix4 0 0 i c) = y
    have hv : ∀ a, (y a).val = (![0, k % 2, 128 * (k / 2 % 16), 0] : Fin 4 → ℕ) a + ((ix4 0 0 i c : (⟨4, ![1, 1, 128, 128]⟩ : Shape).Idx) a).val := fun a => by
      rw [← hy]; exact tile_emb k i c a
    have v1 : (y 1).val = k % 2 := by have := hv 1; exact this
    have v2 : (y 2).val = 128 * (k / 2 % 16) + i.val := hv 2
    have v3 : (y 3).val = c.val := by have : (y 3).val = 0 + c.val := hv 3; omega
    have t2 : (y 2).val / 128 = k / 2 % 16 := by omega
    unfold blockVal
    rw [t2, show y 1 = (⟨k % 2, by omega⟩ : Fin 2) from Fin.ext v1, show y 3 = c from Fin.ext v3,
      show (⟨(y 2).val % 128, by omega⟩ : Fin 128) = i from Fin.ext (by show (y 2).val % 128 = i.val; omega)]
  · exact tile_cover y

end Tiles

/-- Block `b` of a stack of sixteen. -/
def block (X : Vec Ideal S16x2x2048x128 .f32) (b : Fin 16) : Vec Ideal S2x2048x128 .f32 := fun y => X (ix4 b (y 0) (y 1) (y 2))

end Cert.KernelIdeal.Tile

end
-- ==== Proof.Ideal.Frame.lean ====
module

public import proofs.«01_k».proof.Proof.Ideal.RunC
public import Idealize.ShloMosaic.Lib.Claim

@[expose] public section

-- the rectangles have long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 2 tile its block (32 stores of `S1x1x128x128`), so they cover it. -/
theorem cover0_A_2 (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : cond0_0 (grid0.coords t)) (hc1 : cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) (y : S1x2x2048x128.Idx) :
    ∃ pc ∈ (kernelRun0_A c t arg1 harg1 arg2 harg2 arg6 harg6 arg10 harg10 arg11 harg11 hc0 hc1 x0 x1 fh0 fh1 fh2).1, y ∈ pc.1.set :=
  View.cover_of_tiledL (kernelRun0_A c t arg1 harg1 arg2 harg2 arg6 harg6 arg10 harg10 arg11 harg11 hc0 hc1 x0 x1 fh0 fh1 fh2).1 S1x1x128x128.size (by sl_kernel_rfl) y

/-- What case A leaves in output 2's staging buffer: its pieces read back over junk. -/
def out0_A_2 (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : cond0_0 (grid0.coords t)) (hc1 : cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) : Vec F S1x2x2048x128 .f32 :=
  VO0_2.read (Elt F) (VO0_2.writes (Elt F) VO0_2.junk (kernelRun0_A c t arg1 harg1 arg2 harg2 arg6 harg6 arg10 harg10 arg11 harg11 hc0 hc1 x0 x1 fh0 fh1 fh2).1)

/-- Case B's pieces for output 2 tile its block (32 stores of `S1x1x128x128`), so they cover it. -/
theorem cover0_B_2 (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : ¬cond0_0 (grid0.coords t)) (hc1 : cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) (y : S1x2x2048x128.Idx) :
    ∃ pc ∈ (kernelRun0_B c t arg1 harg1 arg2 harg2 arg6 harg6 arg10 harg10 arg11 harg11 hc0 hc1 x0 x1 fh0 fh1 fh2).1, y ∈ pc.1.set :=
  View.cover_of_tiledL (kernelRun0_B c t arg1 harg1 arg2 harg2 arg6 harg6 arg10 harg10 arg11 harg11 hc0 hc1 x0 x1 fh0 fh1 fh2).1 S1x1x128x128.size (by sl_kernel_rfl) y

/-- What case B leaves in output 2's staging buffer: its pieces read back over junk. -/
def out0_B_2 (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : ¬cond0_0 (grid0.coords t)) (hc1 : cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) : Vec F S1x2x2048x128 .f32 :=
  VO0_2.read (Elt F) (VO0_2.writes (Elt F) VO0_2.junk (kernelRun0_B c t arg1 harg1 arg2 harg2 arg6 harg6 arg10 harg10 arg11 harg11 hc0 hc1 x0 x1 fh0 fh1 fh2).1)

/-- Case C's pieces for output 2 tile its block (32 stores of `S1x1x128x128`), so they cover it. -/
theorem cover0_C_2 (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : ¬cond0_0 (grid0.coords t)) (hc1 : ¬cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) (y : S1x2x2048x128.Idx) :
    ∃ pc ∈ (kernelRun0_C c t arg1 harg1 arg2 harg2 arg6 harg6 arg10 harg10 arg11 harg11 hc0 hc1 x0 x1 fh0 fh1 fh2).1, y ∈ pc.1.set :=
  View.cover_of_tiledL (kernelRun0_C c t arg1 harg1 arg2 harg2 arg6 harg6 arg10 harg10 arg11 harg11 hc0 hc1 x0 x1 fh0 fh1 fh2).1 S1x1x128x128.size (by sl_kernel_rfl) y

/-- What case C leaves in output 2's staging buffer: its pieces read back over junk. -/
def out0_C_2 (c : Dev nD) (t : Fin cfg0.N) (arg1 : Memref sig .tc .vmem S128x128 .f32) (harg1 : arg1.IsWhole) (arg2 : Memref sig .tc .vmem S16x512 .f32) (harg2 : arg2.IsWhole) (arg6 : Memref sig .tc .vmem S1x2x2048x128 .f32) (harg6 : arg6.IsWhole) (arg10 : Memref sig .tc .vmem S2x512x128 .f32) (harg10 : arg10.IsWhole) (arg11 : Memref sig .tc .vmem S2x512x128 .bf16) (harg11 : arg11.IsWhole) (hc0 : ¬cond0_0 (grid0.coords t)) (hc1 : ¬cond0_1 (grid0.coords t))
    (x0 : Vec F S128x128 .f32) (x1 : Vec F S16x512 .f32) (fh0 : HbBuf0 (F := F) c hbM0_0) (fh1 : HbBuf0 (F := F) c hbM0_1) (fh2 : HbBuf0 (F := F) c hbM0_2) : Vec F S1x2x2048x128 .f32 :=
  VO0_2.read (Elt F) (VO0_2.writes (Elt F) VO0_2.junk (kernelRun0_C c t arg1 harg1 arg2 harg2 arg6 harg6 arg10 harg10 arg11 harg11 hc0 hc1 x0 x1 fh0 fh1 fh2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2x2048x128 .f32
  | 0, hn => out0_A_2 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) scM0_3 (Memref.isWhole_whole _) scM0_4 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (V m c main_call0_v0) (V m c main_call0_v1) (V m c main_call0_v2)
  | n + 1, hn =>
    if h0 : (n + 1) % 16 = 0 then
      if h1 : (n + 1) < 14 then
        out0_A_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_3 (Memref.isWhole_whole _) scM0_4 (Memref.isWhole_whole _) ((hcond0_0 ⟨n + 1, hn⟩).mpr h0) ((hcond0_1 ⟨n + 1, hn⟩).mpr h1) (iblk m c 0 ⟨n + 1, hn⟩) (iblk m c 1 ⟨n + 1, hn⟩) (V m c main_call0_v0) (V m c main_call0_v1) (V m c main_call0_v2)
      else
        False.elim (by have hN : n + 1 < 16 := lt_of_lt_of_eq hn (show cfg0.N = 16 from N_0); omega)
    else
      if h1 : (n + 1) < 14 then
        out0_B_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (V m c main_call0_v0) (V m c main_call0_v1) (V m c main_call0_v2)
      else
        out0_C_2 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (V m c main_call0_v0) (V m c main_call0_v1) (V m c main_call0_v2)

/-- `outsAt0` at a point of case A: that case's contents. -/
theorem outsAt0_A (c : Dev nD) (t : Fin cfg0.N) (h0 : t.val % 16 = 0) (h1 : t.val < 14) :
    outsAt0 m c t.val t.isLt = out0_A_2 c t (ms0_0 t) (hs0_0 t) (ms0_1 t) (hs0_1 t) (ms0_2 t) (hs0_2 t) scM0_3 (Memref.isWhole_whole _) scM0_4 (Memref.isWhole_whole _) ((hcond0_0 t).mpr h0) ((hcond0_1 t).mpr h1) (iblk m c 0 t) (iblk m c 1 t) (V m c main_call0_v0) (V m c main_call0_v1) (V m c main_call0_v2) := by
  obtain ⟨n, hn⟩ := t
  cases n with
  | zero => exact rfl
  | succ n => exact (dif_pos h0).trans ((dif_pos h1).trans rfl)

/-- `outsAt0` at a point of case B: that case's contents. -/
theorem outsAt0_B (c : Dev nD) (t : Fin cfg0.N) (h0 : ¬t.val % 16 = 0) (h1 : t.val < 14) :
    outsAt0 m c t.val t.isLt = out0_B_2 c t (ms0_0 t) (hs0_0 t) (ms0_1 t) (hs0_1 t) (ms0_2 t) (hs0_2 t) scM0_3 (Memref.isWhole_whole _) scM0_4 (Memref.isWhole_whole _) (fun h => h0 ((hcond0_0 t).mp h)) ((hcond0_1 t).mpr h1) (iblk m c 0 t) (iblk m c 1 t) (V m c main_call0_v0) (V m c main_call0_v1) (V m c main_call0_v2) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents. -/
theorem outsAt0_C (c : Dev nD) (t : Fin cfg0.N) (h0 : ¬t.val % 16 = 0) (h1 : ¬t.val < 14) :
    outsAt0 m c t.val t.isLt = out0_C_2 c t (ms0_0 t) (hs0_0 t) (ms0_1 t) (hs0_1 t) (ms0_2 t) (hs0_2 t) scM0_3 (Memref.isWhole_whole _) scM0_4 (Memref.isWhole_whole _) (fun h => h0 ((hcond0_0 t).mp h)) (fun h => h1 ((hcond0_1 t).mp h)) (iblk m c 0 t) (iblk m c 1 t) (V m c main_call0_v0) (V m c main_call0_v1) (V m c main_call0_v2) := by
  obtain ⟨n, hn⟩ := t
  cases n with
  | zero => exact (by exfalso; (try dsimp only at h0); exact absurd (Nat.zero_mod _) h0)
  | succ n => exact (dif_neg h0).trans ((dif_neg h1).trans rfl)

/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_3 fullShare d) ∗ (∃ d, owns (c : Thread nD τ) scM0_4 fullShare d) ∗ (∃ r, prngReg c r) ∗ ringAt0_0 c (V m c main_call0_v0) k ∗ ringAt0_1 c (V m c main_call0_v1) k ∗ ringAt0_2 c (V m c main_call0_v2) k)

/-- The proof data of the one pipeline on core `c`: the arrays as the region finds them (`V`); after the body at
    point `t` each input's buffer at its block and the outputs' at `outsAt0`; the invariant
    (`PhiR`: each ring's Lib/Ring.lean `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 2400000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (Lib/Ring.lean `AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1 ringAt0_2
  have hgN : grid0.N = 16 := N_0
  have hN : t.val < 16 := lt_of_lt_of_eq t.isLt (show cfg0.N = 16 from N_0)
  by_cases h0 : t.val % 16 = 0
  · by_cases h1 : t.val < 14
    · rw [outsAt0_A m c t h0 h1]
      unfold out0_A_2
      have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq3' _ _ _ t.val hK00 (by decide : 3 ≤ 16), Ring.At3_one' _ _ _ _ t.val hK00 (by decide : 3 ≤ 16)]
      have hr1 := rstep0_1_A t ((hcond0_0 t).mpr h0) ((hcond0_1 t).mpr h1)
      obtain ⟨hK01, hK11⟩ := hr1
      rw [if_pos hK01, if_neg (show ¬t.val + 1 = 0 by omega)]
      rw [Ring.At₀_eq3' _ _ _ t.val hK01 (by decide : 3 ≤ 16), Ring.At3_one' _ _ _ _ t.val hK01 (by decide : 3 ≤ 16)]
      have hr2 := rstep0_2_A t ((hcond0_0 t).mpr h0) ((hcond0_1 t).mpr h1)
      obtain ⟨hK02, hK12⟩ := hr2
      rw [if_pos hK02, if_neg (show ¬t.val + 1 = 0 by omega)]
      rw [Ring.At₀_eq3' _ _ _ t.val hK02 (by decide : 3 ≤ 16), Ring.At3_one' _ _ _ _ t.val hK02 (by decide : 3 ≤ 16)]
      iintro ⟨⟨HS3, HS4, Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩⟩
      iapply ((kernelRun0_A c t _ _ _ _ _ _ _ _ _ _ ((hcond0_0 t).mpr h0) ((hcond0_1 t).mpr h1) (iblk m c 0 t) (iblk m c 1 t) (V m c main_call0_v0) (V m c main_call0_v1) (V m c main_call0_v2)).2 W _)
      isplitl [H0]; · iexact H0
      isplitl [H1]; · iexact H1
      isplitl [H2]; · iexists _; iexact H2
      isplitl [HS3]; · iexact HS3
      isplitl [HS4]; · iexact HS4
      isplitl [Hfr0_0_0]; · iexact Hfr0_0_0
      isplitl [Hfr0_0_1]; · iexact Hfr0_0_1
      isplitl [Hfr0_0_2]; · iexact Hfr0_0_2
      isplitl [Hfr0_1_0]; · iexact Hfr0_1_0
      isplitl [Hfr0_1_1]; · iexact Hfr0_1_1
      isplitl [Hfr0_1_2]; · iexact Hfr0_1_2
      isplitl [Hfr0_2_0]; · iexact Hfr0_2_0
      isplitl [Hfr0_2_1]; · iexact Hfr0_2_1
      isplitl [Hfr0_2_2]; · iexact Hfr0_2_2
      isplitl [HW]; · iexact HW
      iintro ⟨H0, H1, ⟨%e2, H2⟩, HS3, HS4, Hfa0_0', Hfb0_0', Hfc0_0', Hfa0_1', Hfb0_1', Hfc0_1', Hfa0_2', Hfb0_2', Hfc0_2', ⟨%W', HW'⟩⟩
      isplitl [HS3 HS4 Hg Hfa0_0' Hfb0_0' Hfc0_0' Hfa0_1' Hfb0_1' Hfc0_1' Hfa0_2' Hfb0_2' Hfc0_2']
      · isplitl [HS3]; · iexact HS3
        isplitl [HS4]; · iexact HS4
        isplitl [Hg]; · iexact Hg
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        isplitl [Hfa0_1' Hfb0_1' Hfc0_1']
        · iapply (Ring.with_homes (Idealize.SL.BI.Entails.refl _))
          isplitl [Hfa0_1']; · iexact Hfa0_1'
          isplitl [Hfb0_1']; · iexact Hfb0_1'
          iexact Hfc0_1'
        iapply (Ring.with_homes (Idealize.SL.BI.Entails.refl _))
        isplitl [Hfa0_2']; · iexact Hfa0_2'
        isplitl [Hfb0_2']; · iexact Hfb0_2'
        iexact Hfc0_2'
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _ _ _ _ _)
    · exfalso; omega
  · by_cases h1 : t.val < 14
    · rw [outsAt0_B m c t h0 h1]
      unfold out0_B_2
      have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.At3_here _ _ _ _ t.val hKB0, Ring.At3_next _ _ _ _ t.val hKB0, Ring.slotAt3_next0 _ _ _ t.val (by omega), Ring.slotAt3_next1 _ _ _ t.val hKB0]
      have hr1 := rstep0_1_B t (fun h => h0 ((hcond0_0 t).mp h)) ((hcond0_1 t).mpr h1)
      obtain ⟨hK11, hKB1, hKs1⟩ := hr1
      rw [if_neg (show ¬t.val = 0 by omega), if_neg (show ¬t.val + 1 = 0 by omega)]
      rw [Ring.At3_here _ _ _ _ t.val hKB1, Ring.At3_next _ _ _ _ t.val hKB1, Ring.slotAt3_next0 _ _ _ t.val (by omega), Ring.slotAt3_next1 _ _ _ t.val hKB1]
      have hr2 := rstep0_2_B t (fun h => h0 ((hcond0_0 t).mp h)) ((hcond0_1 t).mpr h1)
      obtain ⟨hK12, hKB2, hKs2⟩ := hr2
      rw [if_neg (show ¬t.val = 0 by omega), if_neg (show ¬t.val + 1 = 0 by omega)]
      rw [Ring.At3_here _ _ _ _ t.val hKB2, Ring.At3_next _ _ _ _ t.val hKB2, Ring.slotAt3_next0 _ _ _ t.val (by omega), Ring.slotAt3_next1 _ _ _ t.val hKB2]
      iintro ⟨⟨HS3, HS4, Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩⟩
      iapply ((kernelRun0_B c t _ _ _ _ _ _ _ _ _ _ (fun h => h0 ((hcond0_0 t).mp h)) ((hcond0_1 t).mpr h1) (iblk m c 0 t) (iblk m c 1 t) (V m c main_call0_v0) (V m c main_call0_v1) (V m c main_call0_v2)).2 W _)
      isplitl [H0]; · iexact H0
      isplitl [H1]; · iexact H1
      isplitl [H2]; · iexists _; iexact H2
      isplitl [HS3]; · iexact HS3
      isplitl [HS4]; · iexact HS4
      isplitl [Hfr0_0_0]; · iexact Hfr0_0_0
      isplitl [Hfr0_0_1]; · iexact Hfr0_0_1
      isplitl [Hfr0_0_2]; · iexact Hfr0_0_2
      isplitl [Hfr0_1_0]; · iexact Hfr0_1_0
      isplitl [Hfr0_1_1]; · iexact Hfr0_1_1
      isplitl [Hfr0_1_2]; · iexact Hfr0_1_2
      isplitl [Hfr0_2_0]; · iexact Hfr0_2_0
      isplitl [Hfr0_2_1]; · iexact Hfr0_2_1
      isplitl [Hfr0_2_2]; · iexact Hfr0_2_2
      isplitl [HW]; · iexact HW
      iintro ⟨H0, H1, ⟨%e2, H2⟩, HS3, HS4, Hfa0_0', Hfb0_0', Hfc0_0', Hfa0_1', Hfb0_1', Hfc0_1', Hfa0_2', Hfb0_2', Hfc0_2', ⟨%W', HW'⟩⟩
      isplitl [HS3 HS4 Hg Hfa0_0' Hfb0_0' Hfc0_0' Hfa0_1' Hfb0_1' Hfc0_1' Hfa0_2' Hfb0_2' Hfc0_2']
      · isplitl [HS3]; · iexact HS3
        isplitl [HS4]; · iexact HS4
        isplitl [Hg]; · iexact Hg
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        isplitl [Hfa0_1' Hfb0_1' Hfc0_1']
        · iapply (Ring.with_homes (Idealize.SL.BI.Entails.refl _))
          isplitl [Hfa0_1']; · iexact Hfa0_1'
          isplitl [Hfb0_1']; · iexact Hfb0_1'
          iexact Hfc0_1'
        iapply (Ring.with_homes (Idealize.SL.BI.Entails.refl _))
        isplitl [Hfa0_2']; · iexact Hfa0_2'
        isplitl [Hfb0_2']; · iexact Hfb0_2'
        iexact Hfc0_2'
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _ _ _ _ _ _)
    · rw [outsAt0_C m c t h0 h1]
      unfold out0_C_2
      have hr0 := rstep0_0_C t (fun h => h0 ((hcond0_0 t).mp h)) (fun h => h1 ((hcond0_1 t).mp h))
      obtain ⟨hK10, hKB0, hKlt0, hKs0⟩ := hr0
      rw [if_neg (show ¬t.val = 0 by omega), if_neg (show ¬t.val + 1 = 0 by omega)]
      rw [Ring.At3_here_tail _ _ _ _ t.val hKlt0, Ring.At3_next_tail _ _ _ _ t.val hKB0 hKlt0, Ring.slotAt3_tail_role _ _ _ t.val]
      have hr1 := rstep0_1_C t (fun h => h0 ((hcond0_0 t).mp h)) (fun h => h1 ((hcond0_1 t).mp h))
      obtain ⟨hK11, hKB1, hKlt1, hKs1⟩ := hr1
      rw [if_neg (show ¬t.val = 0 by omega), if_neg (show ¬t.val + 1 = 0 by omega)]
      rw [Ring.At3_here_tail _ _ _ _ t.val hKlt1, Ring.At3_next_tail _ _ _ _ t.val hKB1 hKlt1, Ring.slotAt3_tail_role _ _ _ t.val]
      have hr2 := rstep0_2_C t (fun h => h0 ((hcond0_0 t).mp h)) (fun h => h1 ((hcond0_1 t).mp h))
      obtain ⟨hK12, hKB2, hKlt2, hKs2⟩ := hr2
      rw [if_neg (show ¬t.val = 0 by omega), if_neg (show ¬t.val + 1 = 0 by omega)]
      rw [Ring.At3_here_tail _ _ _ _ t.val hKlt2, Ring.At3_next_tail _ _ _ _ t.val hKB2 hKlt2, Ring.slotAt3_tail_role _ _ _ t.val]
      iintro ⟨⟨HS3, HS4, Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩⟩
      iapply ((kernelRun0_C c t _ _ _ _ _ _ _ _ _ _ (fun h => h0 ((hcond0_0 t).mp h)) (fun h => h1 ((hcond0_1 t).mp h)) (iblk m c 0 t) (iblk m c 1 t) (V m c main_call0_v0) (V m c main_call0_v1) (V m c main_call0_v2)).2 W _)
      isplitl [H0]; · iexact H0
      isplitl [H1]; · iexact H1
      isplitl [H2]; · iexists _; iexact H2
      isplitl [HS3]; · iexact HS3
      isplitl [HS4]; · iexact HS4
      isplitl [Hfr0_0_0]; · iexact Hfr0_0_0
      isplitl [Hfr0_0_1]; · iexact Hfr0_0_1
      isplitl [Hfr0_0_2]; · iexact Hfr0_0_2
      isplitl [Hfr0_1_0]; · iexact Hfr0_1_0
      isplitl [Hfr0_1_1]; · iexact Hfr0_1_1
      isplitl [Hfr0_1_2]; · iexact Hfr0_1_2
      isplitl [Hfr0_2_0]; · iexact Hfr0_2_0
      isplitl [Hfr0_2_1]; · iexact Hfr0_2_1
      isplitl [Hfr0_2_2]; · iexact Hfr0_2_2
      isplitl [HW]; · iexact HW
      iintro ⟨H0, H1, ⟨%e2, H2⟩, HS3, HS4, Hfa0_0', Hfb0_0', Hfc0_0', Hfa0_1', Hfb0_1', Hfc0_1', Hfa0_2', Hfb0_2', Hfc0_2', ⟨%W', HW'⟩⟩
      isplitl [HS3 HS4 Hg Hfa0_0' Hfb0_0' Hfc0_0' Hfa0_1' Hfb0_1' Hfc0_1' Hfa0_2' Hfb0_2' Hfc0_2']
      · isplitl [HS3]; · iexact HS3
        isplitl [HS4]; · iexact HS4
        isplitl [Hg]; · iexact Hg
        isplitl [Hfa0_0' Hfb0_0' Hfc0_0']
        · iapply (Ring.with_homes (Idealize.SL.BI.Entails.refl _))
          isplitl [Hfa0_0']; · iexact Hfa0_0'
          isplitl [Hfb0_0']; · iexact Hfb0_0'
          iexact Hfc0_0'
        isplitl [Hfa0_1' Hfb0_1' Hfc0_1']
        · iapply (Ring.with_homes (Idealize.SL.BI.Entails.refl _))
          isplitl [Hfa0_1']; · iexact Hfa0_1'
          isplitl [Hfb0_1']; · iexact Hfb0_1'
          iexact Hfc0_1'
        iapply (Ring.with_homes (Idealize.SL.BI.Entails.refl _))
        isplitl [Hfa0_2']; · iexact Hfa0_2'
        isplitl [Hfb0_2']; · iexact Hfb0_2'
        iexact Hfc0_2'
      isplitl [HW']
      · iexists W'; isplitr; · ipureintro; exact fun _ _ => Or.inl trivial
        iexact HW'
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1, HR0_2, HS3, HS4⟩, Hg, ⟨Hq0, Hq1, Hq2, Hq3, Hq4, Hq5, Hq6, Hq7, Hq8⟩, ⟨Hh0, Hh1, Hh2⟩⟩
  isplitl [HS3]; · iexact HS3
  isplitl [HS4]; · iexact HS4
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  isplitl [HR0_1 Hq3 Hq4 Hq5 Hh1]
  · iapply (ring0_1_in (F := F) m c)
    isplitl [HR0_1]; · iexact HR0_1
    isplitl [Hq3 Hq4 Hq5]
    · isplitl [Hq3]; · iexact Hq3
      isplitl [Hq4]; · iexact Hq4
      iexact Hq5
    iexact Hh1
  iapply (ring0_2_in (F := F) m c)
  isplitl [HR0_2]; · iexact HR0_2
  isplitl [Hq6 Hq7 Hq8]
  · isplitl [Hq6]; · iexact Hq6
    isplitl [Hq7]; · iexact Hq7
    iexact Hq8
  iexact Hh2
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 16 by rw [N_0]]
  iintro ⟨HS3, HS4, Hg, HR0_0, HR0_1, HR0_2⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  ihave HX0_2 := (ring0_2_out (F := F) m c) $$ HR0_2
  icases HX0_2 with ⟨HR0_2, ⟨Hq6, Hq7, Hq8⟩, Hh2⟩
  isplitl [HR0_0 HR0_1 HR0_2 HS3 HS4]
  · isplitl [HR0_0]; · iexact HR0_0
    isplitl [HR0_1]; · iexact HR0_1
    isplitl [HR0_2]; · iexact HR0_2
    isplitl [HS3]; · iexact HS3
    iexact HS4
  isplitl [Hg]
  · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  isplitl [Hh1]; · iexact Hh1
  iexact Hh2

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Run

end
-- ==== Proof.Value.Array.lean ====
/- The kernel's result as a function of its arguments: every point's block by the list of its stores, the sixteen blocks
   put together, and the host's reshapes before and after. -/
module

public import proofs.«01_k».proof.Proof.Value.Block
public import proofs.«01_k».proof.Proof.Ideal.Frame
public import Idealize.ShloMosaic.Lib.ValueLayout
public import Idealize.ShloMosaic.Lib.WholeRead
public import Idealize.ShloMosaic.Lib.Claim
public import Idealize.ShloMosaic.Lib.Pipeline.ValueKit

@[expose] public section

set_option maxRecDepth 16384

noncomputable section

namespace Cert.KernelIdeal.Tile

open Cert.KernelIdeal Cert.KernelIdeal.Gen Cert.KernelIdeal.Run
open Idealize.ShloMosaic Idealize.ShloMosaic.TcCoe Idealize.SL.Sem

/-- The local bias table. -/
def biasLoc : Vec Ideal S128x128 .f32 := fun i => Ideal.ofBits .f32 (lit0 (S128x128.rowMajor i))

/-- The stripe bias table. -/
def biasStr : Vec Ideal S16x512 .f32 := fun i => Ideal.ofBits .f32 (lit1 (S16x512.rowMajor i))

/-- The sixteen blocks together. -/
def outAll (Q K V : Vec Ideal S16x2x2048x128 .f32) (bl : Vec Ideal S128x128 .f32) (B : Vec Ideal S16x512 .f32) :
    Vec Ideal S16x2x2048x128 .f32 :=
  fun y => blockVal (block Q (y 0)) (block K (y 0)) (block V (y 0)) bl B (ix4 0 (y 1) (y 2) (y 3))

/-- The kernel's result, as a function of its arguments. -/
def result (q k v : FVec Ideal S2x16x2048x128 .f32) : FVec Ideal S2x16x2048x128 .f32 :=
  shapeCast S2x16x2048x128 (outAll (shapeCast S16x2x2048x128 q shapeCasts_S2x16x2048x128_S16x2x2048x128)
    (shapeCast S16x2x2048x128 k shapeCasts_S2x16x2048x128_S16x2x2048x128)
    (shapeCast S16x2x2048x128 v shapeCasts_S2x16x2048x128_S16x2x2048x128) biasLoc biasStr) shapeCasts_S16x2x2048x128_S2x16x2048x128

/-! ## One point -/

theorem casts_block : S1x2x2048x128.ShapeCasts S2x2048x128 := by decide

/-- A block read with its leading axis of one dropped. -/
theorem cast_at (b : Fin 16) (f : Vec Ideal S16x2x2048x128 .f32) (g : Vec Ideal S1x2x2048x128 .f32)
    (hg : ∀ (x : Fin 2) (y : Fin 2048) (z : Fin 128), g (ix4 0 x y z) = f (ix4 b x y z)) :
    shapeCast S2x2048x128 g casts_block = block f b := by
  funext y
  idx_vars y
  exact (ValueIdx.shapeCast_1abc_abc_apply g casts_block y0 y1 y2).trans (hg y0 y1 y2)

/-- A block of the first operand, read as the transfers read it. -/
theorem src0_at (c : Dev nD) (b : Fin 16) (f : HbBuf0 (F := Ideal) c hbM0_0) : View.read (Elt Ideal) (srcB0_0 b).view f = block f b := by
  have e : View.read (Elt Ideal) (srcB0_0 b).view f = shapeCast S2x2048x128 (hbM0_0.view.readAt (Elt Ideal)
    (Rect.unit (s := S16x2x2048x128) ![1 * b.val, 0, 0, 0] S1x2x2048x128.size (inb_src0_0 b)).toLoadRect f) casts_block := rfl
  rw [e]
  refine cast_at b f _ fun x y z => ?_
  refine congrArg f (funext fun a => Fin.ext ?_)
  match a with
  | ⟨0, _⟩ => show 1 * b.val + 1 * 0 = b.val; omega
  | ⟨1, _⟩ => show 0 + 1 * x.val = x.val; omega
  | ⟨2, _⟩ => show 0 + 1 * y.val = y.val; omega
  | ⟨3, _⟩ => show 0 + 1 * z.val = z.val; omega

theorem src1_at (c : Dev nD) (b : Fin 16) (f : HbBuf0 (F := Ideal) c hbM0_1) : View.read (Elt Ideal) (srcB0_1 b).view f = block f b := by
  have e : View.read (Elt Ideal) (srcB0_1 b).view f = shapeCast S2x2048x128 (hbM0_1.view.readAt (Elt Ideal)
    (Rect.unit (s := S16x2x2048x128) ![1 * b.val, 0, 0, 0] S1x2x2048x128.size (inb_src0_1 b)).toLoadRect f) casts_block := rfl
  rw [e]
  refine cast_at b f _ fun x y z => ?_
  refine congrArg f (funext fun a => Fin.ext ?_)
  match a with
  | ⟨0, _⟩ => show 1 * b.val + 1 * 0 = b.val; omega
  | ⟨1, _⟩ => show 0 + 1 * x.val = x.val; omega
  | ⟨2, _⟩ => show 0 + 1 * y.val = y.val; omega
  | ⟨3, _⟩ => show 0 + 1 * z.val = z.val; omega

theorem src2_at (c : Dev nD) (b : Fin 16) (f : HbBuf0 (F := Ideal) c hbM0_2) : View.read (Elt Ideal) (srcB0_2 b).view f = block f b := by
  have e : View.read (Elt Ideal) (srcB0_2 b).view f = shapeCast S2x2048x128 (hbM0_2.view.readAt (Elt Ideal)
    (Rect.unit (s := S16x2x2048x128) ![1 * b.val, 0, 0, 0] S1x2x2048x128.size (inb_src0_2 b)).toLoadRect f) casts_block := rfl
  rw [e]
  refine cast_at b f _ fun x y z => ?_
  refine congrArg f (funext fun a => Fin.ext ?_)
  match a with
  | ⟨0, _⟩ => show 1 * b.val + 1 * 0 = b.val; omega
  | ⟨1, _⟩ => show 0 + 1 * x.val = x.val; omega
  | ⟨2, _⟩ => show 0 + 1 * y.val = y.val; omega
  | ⟨3, _⟩ => show 0 + 1 * z.val = z.val; omega

/-- The local bias table, read whole. -/
theorem whole_read (arg1 : Memref sig .tc .vmem S128x128 .f32) (harg1 : arg1.IsWhole) (x0 : Vec Ideal S128x128 .f32) :
    View.readAt (Elt Ideal) arg1.view (Rect.unit (s := S128x128) ![0, 0] S128x128.size inb_S128x128_S128x128_0_0).toLoadRect
      (harg1.unread x0) = x0 := by
  funext x
  refine (harg1.readAt_unread x0 _ _).trans (congrArg x0 (funext fun a => Fin.ext ?_))
  match a with
  | ⟨0, _⟩ => show 0 + 1 * (x 0).val = (x 0).val; omega
  | ⟨1, _⟩ => show 0 + 1 * (x 1).val = (x 1).val; omega

/-- What a point stores, put together. -/
theorem canon_stores (c : Dev nD) (t : Fin cfg0.N) (arg1 : Memref sig .tc .vmem S128x128 .f32) (harg1 : arg1.IsWhole)
    (arg2 : Memref sig .tc .vmem S16x512 .f32) (harg2 : arg2.IsWhole) (arg10 : Memref sig .tc .vmem S2x512x128 .f32)
    (arg11 : Memref sig .tc .vmem S2x512x128 .bf16) (x0 : Vec Ideal S128x128 .f32) (x1 : Vec Ideal S16x512 .f32)
    (f0 : HbBuf0 (F := Ideal) c hbM0_0) (f1 : HbBuf0 (F := Ideal) c hbM0_1) (f2 : HbBuf0 (F := Ideal) c hbM0_2) :
    View.canon (stores (F := Ideal) c t arg1 harg1 arg2 harg2 arg10 arg11 x0 x1 f0 f1 f2)
      = blockVal (block f0 (Ring.bk 16 t.val)) (block f1 (Ring.bk 16 t.val)) (block f2 (Ring.bk 16 t.val)) x0 x1 := by
  unfold stores
  rw [canon_out (B := x1) _ _ _ _ _ _ _ _ _ _ (fun w r h x => ?_)]
  · have e0 : ReadAs.same.apply (View.read (Elt Ideal) (srcB0_0 (Ring.bk 16 t.val)).view f0) = block f0 (Ring.bk 16 t.val) := src0_at c _ f0
    have e1 : ReadAs.same.apply (View.read (Elt Ideal) (srcB0_1 (Ring.bk 16 t.val)).view f1) = block f1 (Ring.bk 16 t.val) := src1_at c _ f1
    have e2 : ReadAs.same.apply (View.read (Elt Ideal) (srcB0_2 (Ring.bk 16 t.val)).view f2) = block f2 (Ring.bk 16 t.val) := src2_at c _ f2
    rw [e0, e1, e2, whole_read]
  · refine (harg2.readAt_unread x1 _ _).trans (congrArg x1 (funext fun a => Fin.ext ?_))
    match a with
    | ⟨0, _⟩ => show r.val + 1 * 0 = r.val; omega
    | ⟨1, _⟩ =>
      have h1 : 0 + w ≤ 512 := h 1
      show 0 + 1 * x.val = x.val % 512
      omega

variable (m : (ℓ : Loc nD τ sig) → Buf (Elt Ideal) ℓ) (ρ : Dev nD → PrngReg)

/-- What point `t` leaves in the result's staging buffer. -/
theorem after_at (c : Dev nD) (t : Fin cfg0.N) :
    (dats m 0 c).after 2 t = blockVal (block (V m c main_call0_v0) (Ring.bk 16 t.val)) (block (V m c main_call0_v1) (Ring.bk 16 t.val))
      (block (V m c main_call0_v2) (Ring.bk 16 t.val)) (iblk m c 0 t) (iblk m c 1 t) := by
  rw [after0_2]
  by_cases h0 : t.val % 16 = 0
  · have h1 : t.val < 14 := by have : t.val < 16 := Nat.lt_of_lt_of_eq t.isLt N_0; omega
    rw [outsAt0_A m c t h0 h1]
    unfold out0_A_2
    rw [View.read_writes_junk_eq_canon, stores_A, canon_stores]
  · by_cases h1 : t.val < 14
    · rw [outsAt0_B m c t h0 h1]
      unfold out0_B_2
      rw [View.read_writes_junk_eq_canon, stores_B, canon_stores]
    · rw [outsAt0_C m c t h0 h1]
      unfold out0_C_2
      rw [View.read_writes_junk_eq_canon, stores_C, canon_stores]

/-! ## The windows -/

theorem idx_zero0 : ∀ t : Fin cfg0.N, win0_0.index t (0 : Fin 2) = 0 ∧ win0_0.index t (1 : Fin 2) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_out : ∀ t : Fin cfg0.N, win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- The local bias table's window is the whole table. -/
theorem iblk0_eq (c : Dev nD) (t : Fin cfg0.N) : iblk m c 0 t = V m c main_call0_cst := by
  obtain ⟨e0, e1⟩ := idx_zero0 t
  funext j
  refine congrArg (V m c main_call0_cst) (funext fun a => Fin.ext ?_)
  match a with
  | ⟨0, _⟩ => show win0_0.index t (0 : Fin 2) * 128 + 1 * (j 0).val = (j 0).val; omega
  | ⟨1, _⟩ => show win0_0.index t (1 : Fin 2) * 128 + 1 * (j 1).val = (j 1).val; omega

/-- The stripe bias table's window is the whole table. -/
theorem iblk1_eq (c : Dev nD) (t : Fin cfg0.N) : iblk m c 1 t = V m c main_call0_cst_0 := by
  obtain ⟨e0, e1⟩ := idx_zero1 t
  funext j
  refine congrArg (V m c main_call0_cst_0) (funext fun a => Fin.ext ?_)
  match a with
  | ⟨0, _⟩ => show win0_1.index t (0 : Fin 2) * 16 + 1 * (j 0).val = (j 0).val; omega
  | ⟨1, _⟩ => show win0_1.index t (1 : Fin 2) * 512 + 1 * (j 1).val = (j 1).val; omega

/-- Where the result's block at point `t` lies in the array. -/
theorem out_emb (t : Fin cfg0.N) (j : S1x2x2048x128.Idx) :
    ((cfg0.win 2).blk t).view.emb j = (ix4 (⟨t.val, Nat.lt_of_lt_of_eq t.isLt N_0⟩ : Fin 16) (j 1) (j 2) (j 3) : S16x2x2048x128.Idx) := by
  obtain ⟨e0, e1, e2, e3⟩ := idx_out t
  have h0 : (j 0).val < 1 := (j 0).isLt
  refine funext fun a => Fin.ext ?_
  match a with
  | ⟨0, _⟩ => show win0_2.index t (0 : Fin 4) * 1 + 1 * (j 0).val = t.val; omega
  | ⟨1, _⟩ => show win0_2.index t (1 : Fin 4) * 2 + 1 * (j 1).val = (j 1).val; omega
  | ⟨2, _⟩ => show win0_2.index t (2 : Fin 4) * 2048 + 1 * (j 2).val = (j 2).val; omega
  | ⟨3, _⟩ => show win0_2.index t (3 : Fin 4) * 128 + 1 * (j 3).val = (j 3).val; omega

/-- The result array after the last point. -/
theorem final (c : Dev nD) :
    (dats m 0 c).arrAt 2 cfg0.N = outAll (V m c main_call0_v0) (V m c main_call0_v1) (V m c main_call0_v2) (V m c main_call0_cst)
      (V m c main_call0_cst_0) := by
  refine (dats m 0 c).arrAt_eq_of_cover 2 (outAll (V m c main_call0_v0) (V m c main_call0_v1) (V m c main_call0_v2) (V m c main_call0_cst)
      (V m c main_call0_cst_0)) (fun t _ => ?_) (fun i => ?_)
  · refine funext fun j => ?_
    show (dats m 0 c).after 2 t j = outAll _ _ _ _ _ (((cfg0.win 2).blk t).view.emb j)
    rw [out_emb, after_at, iblk0_eq, iblk1_eq]
    have e : Ring.bk 16 t.val = (⟨t.val, Nat.lt_of_lt_of_eq t.isLt N_0⟩ : Fin 16) :=
      Fin.ext (Nat.mod_eq_of_lt (Nat.lt_of_lt_of_eq t.isLt N_0))
    rw [e]
    have ej : j = (ix4 0 (j 1) (j 2) (j 3) : S1x2x2048x128.Idx) := by
      idx_vars j
      obtain rfl : j0 = 0 := Subsingleton.elim _ _
      rfl
    rw [ej]
    rfl
  · refine ⟨⟨(i 0).val, Nat.lt_of_lt_of_eq (i 0).isLt N_0.symm⟩, flush0_2 _, ?_⟩
    have e : ((cfg0.win 2).blk (⟨(i 0).val, Nat.lt_of_lt_of_eq (i 0).isLt N_0.symm⟩ : Fin cfg0.N)).view.emb
        (ix4 0 (i 1) (i 2) (i 3) : S1x2x2048x128.Idx) = i := by
      rw [out_emb]
      idx_vars i
    exact (congrArg (· ∈ _) e).mp (View.emb_mem_set _ _)

/-! ## Before and after the launch -/

/-- The first operand's array at the launch is the queries, recast. -/
theorem V_v0 (c : Dev nD) : V m c main_call0_v0 = shapeCast S16x2x2048x128 (m ((c.tc : Thread nD τ).loc main_arg0)) shapeCasts_S2x16x2048x128_S16x2x2048x128 := by
  simp only [V, V0, hostOps0, List.flatten_cons, List.flatten_nil, List.append_nil, StableHlo.TRef.nullary, StableHlo.TRef.reshape,
    StableHlo.after_cons]
  after_results
  rfl

/-- The second operand's array is the keys, recast. -/
theorem V_v1 (c : Dev nD) : V m c main_call0_v1 = shapeCast S16x2x2048x128 (m ((c.tc : Thread nD τ).loc main_arg1)) shapeCasts_S2x16x2048x128_S16x2x2048x128 := by
  simp only [V, V0, hostOps0, List.flatten_cons, List.flatten_nil, List.append_nil, StableHlo.TRef.nullary, StableHlo.TRef.reshape,
    StableHlo.after_cons]
  after_results
  rfl

/-- The third operand's array is the values, recast. -/
theorem V_v2 (c : Dev nD) : V m c main_call0_v2 = shapeCast S16x2x2048x128 (m ((c.tc : Thread nD τ).loc main_arg2)) shapeCasts_S2x16x2048x128_S16x2x2048x128 := by
  simp only [V, V0, hostOps0, List.flatten_cons, List.flatten_nil, List.append_nil, StableHlo.TRef.nullary, StableHlo.TRef.reshape,
    StableHlo.after_cons]
  after_results
  rfl

/-- The first window's array is the local bias table. -/
theorem V_cst (c : Dev nD) : V m c main_call0_cst = biasLoc := by
  simp only [V, V0, hostOps0, List.flatten_cons, List.flatten_nil, List.append_nil, StableHlo.TRef.nullary, StableHlo.TRef.reshape,
    StableHlo.after_cons]
  after_results
  rfl

/-- The second window's array is the stripe bias table. -/
theorem V_cst_0 (c : Dev nD) : V m c main_call0_cst_0 = biasStr := by
  simp only [V, V0, hostOps0, List.flatten_cons, List.flatten_nil, List.append_nil, StableHlo.TRef.nullary, StableHlo.TRef.reshape,
    StableHlo.after_cons]
  after_results
  rfl

/-- What the host leaves as the result: the launch's result array, recast. -/
theorem tail_v0 (c : Dev nD) : Pipeline.afterTail₀ cfgs (dats m) 0 (V0 m) [hostOps1] c main_v0
    = result (m ((c.tc : Thread nD τ).loc main_arg0)) (m ((c.tc : Thread nD τ).loc main_arg1)) (m ((c.tc : Thread nD τ).loc main_arg2)) := by
  unfold Pipeline.afterTail₀
  have e := Pipeline.withArrays_arr spec0 (by decide) c (V0 m c) (fun w => (dats m 0 c).arrAt w cfg0.N) 2
  rw [final, V_v0, V_v1, V_v2, V_cst, V_cst_0] at e
  show StableHlo.after hostOps1 (Pipeline.withArrays spec0 c (V0 m c) fun w => (dats m 0 c).arrAt w cfg0.N) (Proc.devRef .tc main_v0) = _
  simp only [hostOps1, StableHlo.TRef.reshape, StableHlo.after_cons]
  after_results
  exact congrArg (fun X : FVec Ideal S16x2x2048x128 .f32 => shapeCast S2x16x2048x128 X shapeCasts_S16x2x2048x128_S2x16x2048x128) e

/-- The kernel runs, its result is `result` of the arguments, and the arguments stay. -/
theorem run : θ_run defs (onTc (τ := τ) (main (F := Ideal))) ⟨m, fun _ => 0, ρ⟩ fun r => ∀ c : Dev nD,
      r.2.mem ((c.tc : Thread nD τ).loc main_v0) = result (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v0 (Pipeline.mem_restRefs_of main_v0 (by decide) (by decide))).trans (tail_v0 m c), h.2 c⟩)
    (θ_run_and (run_main m ρ) (unchanged m ρ))

end Cert.KernelIdeal.Tile

end
-- ==== Proof.Value.Tables.lean ====
/- The words of the two bias tables: zero where the layout lets a column count, minus infinity elsewhere. -/
module

public import proofs.«01_k».proof.Proof.Gen.KernelIdeal

@[expose] public section

set_option maxRecDepth 16384

noncomputable section

namespace Cert.KernelIdeal.Tile

open Cert.KernelIdeal Cert.KernelIdeal.Gen
open Idealize.ShloMosaic

/-- A quarter of the local table's rows have the words of the layout: within a tile of eight blocks, a window's lower
    triangle, and the fourth block for the second window's rows. -/
abbrev LocPart (a : Fin 4) : Prop := ∀ (i : Fin 32) (k : Fin 128), lit0 ⟨(32 * a.val + i.val) * 128 + k.val, by omega⟩
    = if (k.val / 64 = (32 * a.val + i.val) / 64 ∧ k.val / 16 ≤ (32 * a.val + i.val) / 16) ∨ (k.val / 16 = 3 ∧ 4 ≤ (32 * a.val + i.val) / 16)
      then 0#32 else 0xFF800000#32

theorem locPart0 : LocPart 0 := by decide +kernel
theorem locPart1 : LocPart 1 := by decide +kernel
theorem locPart2 : LocPart 2 := by decide +kernel
theorem locPart3 : LocPart 3 := by decide +kernel

/-- The words of the local table: within a tile of eight blocks, a window's lower triangle, and the fourth block for the
    second window's rows. -/
theorem words_loc (i k : Fin 128) : lit0 ⟨i.val * 128 + k.val, by omega⟩
    = if (k.val / 64 = i.val / 64 ∧ k.val / 16 ≤ i.val / 16) ∨ (k.val / 16 = 3 ∧ 4 ≤ i.val / 16) then 0#32 else 0xFF800000#32 := by
  have part : ∀ a : Fin 4, LocPart a := fun a => match a with
    | 0 => locPart0
    | 1 => locPart1
    | 2 => locPart2
    | 3 => locPart3
  have h := part ⟨i.val / 32, by omega⟩ ⟨i.val % 32, by omega⟩ k
  have e : 32 * (i.val / 32) + i.val % 32 = i.val := Nat.div_add_mod _ _
  simp only [e] at h
  exact h

/-- A quarter of the stripe table's rows let the stripe columns before the row's tile count. -/
abbrev StrPart (a : Fin 4) : Prop := ∀ (t : Fin 4) (k : Fin 512), lit1 ⟨(4 * a.val + t.val) * 512 + k.val, by omega⟩
    = if k.val < 32 * (4 * a.val + t.val) then 0#32 else 0xFF800000#32

theorem strPart0 : StrPart 0 := by decide +kernel
theorem strPart1 : StrPart 1 := by decide +kernel
theorem strPart2 : StrPart 2 := by decide +kernel
theorem strPart3 : StrPart 3 := by decide +kernel

/-- The words of the stripe table: a tile's row lets the stripe columns before the tile count. -/
theorem words_str (t : Fin 16) (k : Fin 512) : lit1 ⟨t.val * 512 + k.val, by omega⟩
    = if k.val < 32 * t.val then 0#32 else 0xFF800000#32 := by
  have part : ∀ a : Fin 4, StrPart a := fun a => match a with
    | 0 => strPart0
    | 1 => strPart1
    | 2 => strPart2
    | 3 => strPart3
  have h := part ⟨t.val / 4, by omega⟩ ⟨t.val % 4, by omega⟩ k
  have e : 4 * (t.val / 4) + t.val % 4 = t.val := Nat.div_add_mod _ _
  simp only [e] at h
  exact h

end Cert.KernelIdeal.Tile

end
-- ==== Proof.Value.Reference.lean ====
/- What the reference computes, read at an index: the masked softmax of one query row against all the keys, times one
   column of the values. -/
module

public import proofs.«01_k».proof.Proof.Gen.ReferenceIdeal.Run
public import Idealize.ShloMosaic.Lib.Pointwise
public import proofs.«01_k».proof.Proof.Value.Soft

@[expose] public section

set_option maxRecDepth 16384

noncomputable section

namespace Cert.ReferenceIdeal.Read

open Cert.ReferenceIdeal Cert.ReferenceIdeal.Gen Cert.Soft
open Idealize.ShloMosaic Idealize.ShloMosaic.TcCoe Idealize.SL.Sem

/-- The mask, for both batch rows. -/
def wide (w : IVec S16x2048x2048 1) : IVec S2x16x2048x2048 1 :=
  broadcastInDim S2x16x2048x2048 ![0, 1, 2, 3] bcast_S1x16x2048x2048_S2x16x2048x2048_0_1_2_3
    (broadcastInDim S1x16x2048x2048 ![1, 2, 3] bcast_S16x2048x2048_S1x16x2048x2048_1_2_3 w)

/-- The masked scores. -/
def scores (q k : FVec Ideal S2x16x2048x128 .f32) (w : IVec S16x2048x2048 1) : FVec Ideal S2x16x2048x2048 .f32 :=
  select (wide w)
    (mulf (Host.dotGeneral dot_S2x16x2048x128_S2x16x2048x128_S2x16x2048x2048_3_3_2_2_01_01 none q k)
      (broadcastInDim S2x16x2048x2048 ![] bcast_S_S2x16x2048x2048 (constant S_ .f32 0x3DB504F3#32)))
    (broadcastInDim S2x16x2048x2048 ![] bcast_S_S2x16x2048x2048 (id (constant S_ .f32 0xFF800000#32)))

/-- One number per row, along the row. -/
def spread (x : FVec Ideal S2x16x2048 .f32) : FVec Ideal S2x16x2048x2048 .f32 :=
  broadcastInDim S2x16x2048x2048 ![0, 1, 2, 3] bcast_S2x16x2048x1_S2x16x2048x2048_0_1_2_3
    (broadcastInDim S2x16x2048x1 ![0, 1, 2] bcast_S2x16x2048_S2x16x2048x1_0_1_2 x)

/-- A row's maximum over the scores, from minus infinity. -/
def rowTop (s : FVec Ideal S2x16x2048x2048 .f32) : FVec Ideal S2x16x2048 .f32 :=
  Host.reduce FloatOps.maximumf s (constant S_ .f32 0xFF800000#32) reducesTo_S2x16x2048x2048_S2x16x2048_d3 h_S_

/-- The row maxima, once more against minus infinity. -/
def rowCap (t : FVec Ideal S2x16x2048 .f32) : FVec Ideal S2x16x2048 .f32 :=
  maximumf (broadcastInDim S2x16x2048 ![] bcast_S_S2x16x2048 (constant S_ .f32 0xFF800000#32)) t

/-- The exponentials of scores less one number per row. -/
def lowered (s : FVec Ideal S2x16x2048x2048 .f32) (t : FVec Ideal S2x16x2048 .f32) : FVec Ideal S2x16x2048x2048 .f32 :=
  Host.exp (subf s (spread t))

/-- The exponentials of the scores less their row's maximum. -/
def weights (s : FVec Ideal S2x16x2048x2048 .f32) : FVec Ideal S2x16x2048x2048 .f32 :=
  lowered s (rowCap (rowTop s))

/-- The weights over their row's sum, where the mask is set. -/
def probs (w : IVec S16x2048x2048 1) (e : FVec Ideal S2x16x2048x2048 .f32) : FVec Ideal S2x16x2048x2048 .f32 :=
  select (wide w)
    (Host.divf e (spread (Host.reduceAdd e (constant S_ .f32 0x00000000#32) reducesTo_S2x16x2048x2048_S2x16x2048_d3 h_S_)))
    (broadcastInDim S2x16x2048x2048 ![] bcast_S_S2x16x2048x2048 (id (constant S_ .f32 0x00000000#32)))

/-- The reference's result. -/
def result (q k v : FVec Ideal S2x16x2048x128 .f32) (w : IVec S16x2048x2048 1) : FVec Ideal S2x16x2048x128 .f32 :=
  Host.dotGeneral dot_S2x16x2048x2048_S2x16x2048x128_S2x16x2048x128_3_2_2_3_01_01 none (probs w (weights (scores q k w))) v

/-- The scale's word, as an extended real. -/
def scale : EReal := Ideal.ofBits .f32 1035273459#32

theorem ofBits_negInf : Ideal.ofBits .f32 4286578688#32 = ⊥ := by simp [Ideal.ofBits, Ideal.ieee]

/-- A masked score at an index. -/
theorem scores_at (q k : FVec Ideal S2x16x2048x128 .f32) (w : IVec S16x2048x2048 1) (a : Fin 2) (h : Fin 16) (i j : Fin 2048) :
    scores q k w (ix4 a h i j)
      = if w (ix3 h i j) = 1#1 then (∑ x : Fin 128, q (ix4 a h i x) * k (ix4 a h j x)) * scale else ⊥ := by
  pointwise [scores, wide]
  simp only [id, constant_apply, Ideal.ofBits_def, ofBits_negInf, Scalar.select, scale]
  rfl

/-- A maximum over the last of four axes, at an index. -/
theorem rowMax_at {n0 n1 n2 n3 : ℕ} (s : FVec Ideal ⟨4, ![n0, n1, n2, n3]⟩ .f32) (z : FVec Ideal S_ .f32)
    (hr : (⟨4, ![n0, n1, n2, n3]⟩ : Shape).ReducesTo [3] ⟨3, ![n0, n1, n2]⟩) (hu : 0 < S_.numel) (a : Fin n0) (h : Fin n1) (i : Fin n2) :
    Host.reduce FloatOps.maximumf s z hr hu (ix3 a h i)
      = Finset.univ.fold max (z (Shape.Idx.first hu)) fun x : Fin n3 => s (ix4 a h i x) := by
  pointwise []

/-- One number per row, at an index. -/
theorem spread_at (x : FVec Ideal S2x16x2048 .f32) (a : Fin 2) (h : Fin 16) (i j : Fin 2048) : spread x (ix4 a h i j) = x (ix3 a h i) := by
  pointwise [spread]

theorem rowTop_at (s : FVec Ideal S2x16x2048x2048 .f32) (a : Fin 2) (h : Fin 16) (i : Fin 2048) :
    rowTop s (ix3 a h i) = Finset.univ.fold max ⊥ fun x : Fin 2048 => s (ix4 a h i x) := by
  refine (rowMax_at s _ _ _ a h i).trans ?_
  rw [show (constant (F := Ideal) S_ .f32 0xFF800000#32) (Shape.Idx.first h_S_) = ⊥ from ofBits_negInf]

theorem rowCap_at (t : FVec Ideal S2x16x2048 .f32) (a : Fin 2) (h : Fin 16) (i : Fin 2048) :
    rowCap t (ix3 a h i) = max ⊥ (t (ix3 a h i)) := by
  pointwise [rowCap]
  simp only [constant_apply, Ideal.ofBits_def, ofBits_negInf]

theorem lowered_at (s : FVec Ideal S2x16x2048x2048 .f32) (t : FVec Ideal S2x16x2048 .f32) (a : Fin 2) (h : Fin 16) (i j : Fin 2048) :
    lowered s t (ix4 a h i j) = Ideal.exp (s (ix4 a h i j) - t (ix3 a h i)) := by
  pointwise [lowered, spread]

/-- A weight at an index. -/
theorem weights_at (s : FVec Ideal S2x16x2048x2048 .f32) (a : Fin 2) (h : Fin 16) (i j : Fin 2048) :
    weights s (ix4 a h i j)
      = Ideal.exp (s (ix4 a h i j) - max ⊥ (Finset.univ.fold max ⊥ fun x : Fin 2048 => s (ix4 a h i x))) := by
  rw [weights, lowered_at, rowCap_at, rowTop_at]

/-- A probability at an index. -/
theorem probs_at (w : IVec S16x2048x2048 1) (e : FVec Ideal S2x16x2048x2048 .f32) (a : Fin 2) (h : Fin 16) (i j : Fin 2048) :
    probs w e (ix4 a h i j)
      = if w (ix3 h i j) = 1#1 then Ideal.div (e (ix4 a h i j)) (∑ x : Fin 2048, e (ix4 a h i x)) else 0 := by
  pointwise [probs, wide, spread]
  simp only [id, constant_apply, Ideal.ofBits_def, Ideal.ofBits_zero_f32, Scalar.select]
  rfl

/-- The result at an index. -/
theorem result_at (q k v : FVec Ideal S2x16x2048x128 .f32) (w : IVec S16x2048x2048 1) (a : Fin 2) (h : Fin 16) (i : Fin 2048)
    (c : Fin 128) :
    result q k v w (ix4 a h i c)
      = masked (fun j : Fin 2048 => w (ix3 h i j) = 1#1) (fun j => (∑ x : Fin 128, q (ix4 a h i x) * k (ix4 a h j x)) * scale)
          (fun j => v (ix4 a h j c)) := by
  have e : result q k v w (ix4 a h i c)
      = ∑ j : Fin 2048, probs w (weights (scores q k w)) (ix4 a h i j) * v (ix4 a h j c) := by
    pointwise [result]
  rw [e]
  simp only [probs_at, weights_at, scores_at, masked]

/-- The reference runs, its result is `result` of the arguments, and the arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.ReferenceIdeal.Read

end
-- ==== Proof.Value.Pre.lean ====
/- What the precondition says: every query and key is a real number, and the mask is set at a row and a column exactly
   where the fixed layout has their blocks. -/
module

public import proofs.«01_k».proof.Proof.Gen.Pre_finite_fixed_layout
public import Idealize.ShloMosaic.PureOps.Ideal
public import Idealize.ShloMosaic.Lib.Pointwise
public import Idealize.ShloMosaic.Lib.ReduceAll

@[expose] public section

set_option maxRecDepth 16384

noncomputable section

namespace Cert.Pre_finite_fixed_layout.Read

open Cert.Pre_finite_fixed_layout Cert.Pre_finite_fixed_layout.Facts
open Idealize.ShloMosaic

variable [Facts]

/-- The layout: within a window of four blocks the lower triangle, and the last block of every earlier window. -/
def Layout (r c : ℕ) : Prop :=
  (c / 16 / 4 = r / 16 / 4 ∧ c / 16 ≤ r / 16) ∨ (c / 16 % 4 = 3 ∧ c / 16 < r / 16)

/-- Every element is less than plus infinity in absolute value. -/
def bounded (x : FVec Ideal S2x16x2048x128 .f32) : IVec S_ 1 :=
  Host.reduce IntOp.andi
    (cmpf .olt (Host.absf x) (broadcastInDim S2x16x2048x128 ![] bcast_S_S2x16x2048x128 (constant S_ .f32 0x7F800000#32)))
    (constantI S_ 1 1#1) reducesTo_S2x16x2048x128_S_d0_1_2_3 h_S_

/-- The layout as the precondition computes it. -/
def table : IVec S16x2048x2048 1 :=
  let div (x : IVec S16x2048x2048 32) (n : BitVec 32) : IVec S16x2048x2048 32 :=
    Host.divsi x (broadcastInDim S16x2048x2048 ![] bcast_S_S16x2048x2048 (constantI S_ 32 n))
  let r := div (iotaInDim S16x2048x2048 32 1) 16#32
  let c := div (iotaInDim S16x2048x2048 32 2) 16#32
  ori (andi (cmpi .eq (div r 4#32) (div c 4#32)) (cmpi .sle c r))
    (andi (cmpi .eq (Host.remsi c (broadcastInDim S16x2048x2048 ![] bcast_S_S16x2048x2048 (constantI S_ 32 4#32)))
        (broadcastInDim S16x2048x2048 ![] bcast_S_S16x2048x2048 (constantI S_ 32 3#32)))
      (cmpi .slt c r))

/-- The precondition, part by part. -/
theorem fn_eq (q k v : FVec Ideal S2x16x2048x128 .f32) (w : IVec S16x2048x2048 1) :
    fn (F := Ideal) q k v w = andi (broadcastInDim S16x2048x2048 ![] bcast_S_S16x2048x2048 (andi (bounded q) (bounded k)))
      (cmpi .eq (extui 32 w natLt_1_32) (extui 32 table natLt_1_32)) := rfl

theorem ofBits_inf : Ideal.ofBits .f32 2139095040#32 = ⊤ := by simp [Ideal.ofBits, Ideal.ieee]

/-- A bounded array holds real numbers. -/
theorem real_of_bounded (x : FVec Ideal S2x16x2048x128 .f32) (j : S_.Idx) (h : bounded x j = 1#1) (i : S2x16x2048x128.Idx) :
    ∃ r : ℝ, x i = r := by
  have : Subsingleton S_.Idx := ⟨fun a b => funext fun k => k.elim0⟩
  have e := Host.reduce_andi_all _ _ _ _ _ h i
  have e' : max (x i) (-x i) < ⊤ := by
    have e2 : Ideal.cmp .olt (max (x i) (-x i)) (Ideal.ofBits .f32 2139095040#32) = 1#1 := e
    rw [ofBits_inf] at e2
    by_contra hn
    simp [Ideal.cmp, hn] at e2
  have h1 : x i ≠ ⊤ := fun h => by rw [h] at e'; simp at e'
  have h2 : x i ≠ ⊥ := fun h => by rw [h] at e'; simp at e'
  exact ⟨(x i).toReal, (EReal.coe_toReal h1 h2).symm⟩

/-- An index's block. -/
theorem div_block : ∀ i : Fin 2048, IntOp.divsi .host (BitVec.ofNat 32 i.val) 16#32 = BitVec.ofNat 32 (i.val / 16) := by
  decide +kernel

/-- The layout's rule on two blocks, as words. -/
theorem rule_block : ∀ a b : Fin 128,
    IntOp.ori
      (IntOp.andi (IntOp.cmpi .eq (IntOp.divsi .host (BitVec.ofNat 32 a.val) 4#32) (IntOp.divsi .host (BitVec.ofNat 32 b.val) 4#32))
        (IntOp.cmpi .sle (BitVec.ofNat 32 b.val) (BitVec.ofNat 32 a.val)))
      (IntOp.andi (IntOp.cmpi .eq (IntOp.remsi .host (BitVec.ofNat 32 b.val) 4#32) 3#32)
        (IntOp.cmpi .slt (BitVec.ofNat 32 b.val) (BitVec.ofNat 32 a.val))) = 1#1
      ↔ (b.val / 4 = a.val / 4 ∧ b.val ≤ a.val) ∨ (b.val % 4 = 3 ∧ b.val < a.val) := by
  decide +kernel

/-- The table at an index. -/
theorem table_at (h : Fin 16) (i j : Fin 2048) : table (ix3 h i j) = 1#1 ↔ Layout i.val j.val := by
  have e := rule_block ⟨i.val / 16, by omega⟩ ⟨j.val / 16, by omega⟩
  rw [← div_block i, ← div_block j] at e
  exact e

/-- What the precondition says. -/
theorem reading (q k v : FVec Ideal S2x16x2048x128 .f32) (w : IVec S16x2048x2048 1) (hp : ∀ x, fn (F := Ideal) q k v w x = 1#1) :
    (∀ i, ∃ r : ℝ, q i = r) ∧ (∀ i, ∃ r : ℝ, k i = r) ∧ ∀ h i j, w (ix3 h i j) = 1#1 ↔ Layout i.val j.val := by
  have one : Subsingleton S_.Idx := ⟨fun a b => funext fun k => k.elim0⟩
  obtain ⟨o⟩ : Nonempty S_.Idx := ⟨fun a => a.elim0⟩
  have split : ∀ x, (bounded q o = 1#1 ∧ bounded k o = 1#1) ∧ w x = table x := by
    intro x
    have e := hp x
    rw [fn_eq] at e
    obtain ⟨e1, e2⟩ := (IntOp.andi_eq_one).1 (show IntOp.andi _ (IntOp.cmpi .eq ((w x).setWidth 32) ((table x).setWidth 32)) = 1#1 from e)
    refine ⟨?_, ?_⟩
    · obtain ⟨u, e3⟩ : ∃ u, IntOp.andi (bounded q u) (bounded k u) = 1#1 := ⟨_, e1⟩
      rw [Subsingleton.elim u o] at e3
      exact (IntOp.andi_eq_one).1 e3
    · have e4 := (IntOp.cmpi_eq).1 e2
      generalize w x = u at e4 ⊢
      generalize table x = v at e4 ⊢
      revert u v
      decide
  have s0 := split (ix3 0 0 0)
  refine ⟨real_of_bounded q _ s0.1.1, real_of_bounded k _ s0.1.2, fun h i j => ?_⟩
  rw [(split (ix3 h i j)).2]
  exact table_at h i j

end Cert.Pre_finite_fixed_layout.Read

end
-- ==== Proof.Value.Equation.lean ====
/- The kernel's result is the reference's: a tile's two families of columns are the columns the layout has for its rows. -/
module

public import proofs.«01_k».proof.Proof.Value.Array
public import proofs.«01_k».proof.Proof.Value.Tables
public import proofs.«01_k».proof.Proof.Value.Reference
public import proofs.«01_k».proof.Proof.Value.Pre

@[expose] public section

set_option maxRecDepth 16384

noncomputable section

namespace Cert.KernelIdeal.Tile

open Cert.KernelIdeal Cert.KernelIdeal.Gen Cert.Soft
open Cert.Pre_finite_fixed_layout.Read (Layout)
open Idealize.ShloMosaic

/-- A choice of the two words, as extended reals. -/
theorem ofBits_choice (p : Prop) [Decidable p] : Ideal.ofBits .f32 (if p then 0#32 else 4286578688#32) = if p then (0 : EReal) else ⊥ := by
  split
  · exact Ideal.ofBits_zero_f32
  · simp [Ideal.ofBits, Ideal.ieee]

/-- The local bias at a row and a column of a tile. -/
theorem biasLoc_at (i k : Fin 128) : biasLoc (ix2 i k)
    = if (k.val / 64 = i.val / 64 ∧ k.val / 16 ≤ i.val / 16) ∨ (k.val / 16 = 3 ∧ 4 ≤ i.val / 16) then (0 : EReal) else ⊥ := by
  have e : S128x128.rowMajor (ix2 i k) = (⟨i.val * 128 + k.val, by show _ < 16384; omega⟩ : Fin 16384) :=
    Fin.ext (Shape.rowMajor_val_two _)
  show Ideal.ofBits .f32 (lit0 (S128x128.rowMajor (ix2 i k))) = _
  rw [e, words_loc i k, ofBits_choice]

/-- The stripe bias of a tile at a stripe column. -/
theorem biasStr_at (t : Fin 16) (k : Fin 512) : biasStr (ix2 t k) = if k.val < 32 * t.val then (0 : EReal) else ⊥ := by
  have e : S16x512.rowMajor (ix2 t k) = (⟨t.val * 512 + k.val, by show _ < 8192; omega⟩ : Fin 8192) :=
    Fin.ext (Shape.rowMajor_val_two _)
  show Ideal.ofBits .f32 (lit1 (S16x512.rowMajor (ix2 t k))) = _
  rw [e, words_str t k, ofBits_choice]

/-! ## One tile -/

/-- The scale is a real number. -/
theorem scale_real : ∃ r : ℝ, scale = r := by
  simp only [scale, Ideal.ofBits, Ideal.ieee]
  simp
  exact ⟨_, rfl⟩

/-- A sum of real numbers is a real number. -/
theorem sum_real (f : Fin 128 → ℝ) : ∑ x, (f x : EReal) = ((∑ x, f x : ℝ) : EReal) :=
  (map_sum (⟨⟨Real.toEReal, EReal.coe_zero⟩, EReal.coe_add⟩ : ℝ →+ EReal) f Finset.univ).symm

/-- The scaled score of a query row and a key row. -/
def dotScaled (Q K : Vec Ideal S2x2048x128 .f32) (hh : Fin 2) (P R : Fin 2048) : EReal :=
  (∑ x : Fin 128, Q (ix3 hh P x) * K (ix3 hh R x)) * scale

/-- Scaling the queries first is scaling the score, on real numbers; and the score is a real number. -/
theorem score_eq (Q K : Vec Ideal S2x2048x128 .f32) (hQ : ∀ y, ∃ r : ℝ, Q y = r) (hK : ∀ y, ∃ r : ℝ, K y = r) (hh : Fin 2) (P R : Fin 2048) :
    score Q K hh P R = dotScaled Q K hh P R ∧ ∃ r : ℝ, dotScaled Q K hh P R = r := by
  choose q hq using hQ
  choose k hk using hK
  obtain ⟨s, hs⟩ := scale_real
  simp only [score, dotScaled, hq, hk, hs, ← EReal.coe_mul, sum_real]
  refine ⟨?_, _, rfl⟩
  rw [Finset.sum_mul]
  exact congrArg _ (Finset.sum_congr rfl fun x _ => by ring)

/-- The columns of a tile's own rows that count. -/
def OkLoc (i k : Fin 128) : Prop := (k.val / 64 = i.val / 64 ∧ k.val / 16 ≤ i.val / 16) ∨ (k.val / 16 = 3 ∧ 4 ≤ i.val / 16)

instance (i : Fin 128) : DecidablePred (OkLoc i) := fun k => by unfold OkLoc; infer_instance

/-- A score with a bias of zero or minus infinity. -/
theorem add_choice (p : Prop) [Decidable p] (x : EReal) : x + (if p then (0 : EReal) else ⊥) = if p then x else ⊥ := by
  split
  · exact add_zero x
  · exact EReal.add_bot x

/-- The layout's columns of a tile's row: those of the tile's own rows, and the stripe columns before the tile. -/
theorem cover (t : ℕ) (ht : t < 16) (i : Fin 128) (a : Fin 2048) :
    Layout (128 * t + i.val) a.val ↔ (∃ b : Fin 128, OkLoc i b ∧ trow t b.val = a)
      ∨ ∃ c : Fin (128 * ((t + 3) / 4)), c.val < 32 * t ∧ srow c.val = a := by
  have hi := i.isLt
  have ha := a.isLt
  constructor
  · intro h
    unfold Layout at h
    by_cases hat : 128 * t ≤ a.val
    · refine Or.inl ⟨⟨a.val - 128 * t, by omega⟩, ?_, Fin.ext ?_⟩
      · unfold OkLoc
        show ((a.val - 128 * t) / 64 = i.val / 64 ∧ (a.val - 128 * t) / 16 ≤ i.val / 16) ∨ ((a.val - 128 * t) / 16 = 3 ∧ 4 ≤ i.val / 16)
        omega
      · show (128 * t + (a.val - 128 * t)) % 2048 = a.val
        omega
    · refine Or.inr ⟨⟨16 * (a.val / 64) + a.val % 16, by omega⟩, ?_, Fin.ext ?_⟩
      · show 16 * (a.val / 64) + a.val % 16 < 32 * t
        omega
      · show (64 * ((16 * (a.val / 64) + a.val % 16) / 16) + 48 + (16 * (a.val / 64) + a.val % 16) % 16) % 2048 = a.val
        omega
  · rintro (⟨b, hb, rfl⟩ | ⟨c, hc, rfl⟩)
    · have hb' := b.isLt
      unfold OkLoc at hb
      have e : (trow t b.val).val = 128 * t + b.val := Nat.mod_eq_of_lt (by omega)
      rw [e]
      unfold Layout
      omega
    · have e : (srow c.val).val = 64 * (c.val / 16) + 48 + c.val % 16 := Nat.mod_eq_of_lt (by omega)
      rw [e]
      unfold Layout
      omega

/-- A tile holds the masked softmax of its rows against all the keys. -/
theorem tile_eq (Q K V : Vec Ideal S2x2048x128 .f32) (hQ : ∀ y, ∃ r : ℝ, Q y = r) (hK : ∀ y, ∃ r : ℝ, K y = r) (hh : Fin 2) (t : ℕ)
    (ht : t < 16) (i c : Fin 128) (M : Fin 2048 → Prop) [DecidablePred M] (hM : ∀ j, M j ↔ Layout (128 * t + i.val) j.val) :
    tileVal (128 * ((t + 3) / 4)) Q K V biasLoc biasStr hh t i c
      = masked M (fun j => dotScaled Q K hh (trow t i.val) j) (fun j => V (ix3 hh j c)) := by
  rw [masked_eq_attn (B := OkLoc i) (C := fun x : Fin (128 * ((t + 3) / 4)) => x.val < 32 * t)
    (f := fun x : Fin 128 => trow t x.val) (g := fun x => srow x.val)]
  · unfold tileVal
    congr 1
    · funext x
      rw [biasLoc_at, (score_eq Q K hQ hK _ _ _).1]
      exact add_choice (OkLoc i x) _
    · funext x
      rw [biasStr_at, (score_eq Q K hQ hK _ _ _).1, add_choice]
      have e1 : x.val % 512 = x.val := Nat.mod_eq_of_lt (by have := x.isLt; omega)
      have e2 : t % 16 = t := Nat.mod_eq_of_lt ht
      simp only [e1, e2]
  · intro b b' _ _ h
    have h' : (128 * t + b.val) % 2048 = (128 * t + b'.val) % 2048 := congrArg Fin.val h
    have := b.isLt
    have := b'.isLt
    exact Fin.ext (by omega)
  · intro x x' _ _ h
    have h' : (64 * (x.val / 16) + 48 + x.val % 16) % 2048 = (64 * (x'.val / 16) + 48 + x'.val % 16) % 2048 := congrArg Fin.val h
    have := x.isLt
    have := x'.isLt
    exact Fin.ext (by omega)
  · exact fun a => (hM a).trans (cover t ht i a)
  · intro b x _ hx h
    have h' : (128 * t + b.val) % 2048 = (64 * (x.val / 16) + 48 + x.val % 16) % 2048 := congrArg Fin.val h
    have hx' : x.val < 32 * t := hx
    have hb := b.isLt
    rw [Nat.mod_eq_of_lt (by omega), Nat.mod_eq_of_lt (by omega)] at h'
    have hj : x.val / 16 < 2 * t := by omega
    omega
  · exact fun a => (score_eq Q K hQ hK _ _ _).2
  · refine ⟨trow t i.val, (hM _).2 ?_⟩
    have e : (trow t i.val).val = 128 * t + i.val := Nat.mod_eq_of_lt (by omega)
    rw [e]
    exact Or.inl ⟨rfl, le_rfl⟩

/-! ## The heads -/

/-- The pair of heads of a batch row and a head. -/
def pairOf (a : Fin 2) (h : Fin 16) : Fin 16 := ⟨(16 * a.val + h.val) / 2, by omega⟩

/-- The head within its pair. -/
def within (a : Fin 2) (h : Fin 16) : Fin 2 := ⟨(16 * a.val + h.val) % 2, by omega⟩

/-- An operand, recast into pairs of heads, at an index. -/
theorem cast_in (q : FVec Ideal S2x16x2048x128 .f32) (a : Fin 2) (h : Fin 16) (r : Fin 2048) (c : Fin 128) :
    shapeCast S16x2x2048x128 q shapeCasts_S2x16x2048x128_S16x2x2048x128 (ix4 (pairOf a h) (within a h) r c) = q (ix4 a h r c) :=
  shapeCast_apply q _ _ _ (by
    rw [Shape.rowMajor_val_four, Shape.rowMajor_val_four]
    show ((a.val * 16 + h.val) * 2048 + r.val) * 128 + c.val
      = (((16 * a.val + h.val) / 2 * 2 + (16 * a.val + h.val) % 2) * 2048 + r.val) * 128 + c.val
    omega)

/-- The result, recast back, at an index. -/
theorem cast_out (o : FVec Ideal S16x2x2048x128 .f32) (a : Fin 2) (h : Fin 16) (r : Fin 2048) (c : Fin 128) :
    shapeCast S2x16x2048x128 o shapeCasts_S16x2x2048x128_S2x16x2048x128 (ix4 a h r c) = o (ix4 (pairOf a h) (within a h) r c) :=
  shapeCast_apply o _ _ _ (by
    rw [Shape.rowMajor_val_four, Shape.rowMajor_val_four]
    show (((16 * a.val + h.val) / 2 * 2 + (16 * a.val + h.val) % 2) * 2048 + r.val) * 128 + c.val
      = ((a.val * 16 + h.val) * 2048 + r.val) * 128 + c.val
    omega)

/-- An operand's block of one pair of heads, at an index. -/
theorem block_at (q : FVec Ideal S2x16x2048x128 .f32) (a : Fin 2) (h : Fin 16) (r : Fin 2048) (c : Fin 128) :
    block (shapeCast S16x2x2048x128 q shapeCasts_S2x16x2048x128_S16x2x2048x128) (pairOf a h) (ix3 (within a h) r c) = q (ix4 a h r c) :=
  cast_in q a h r c

/-- A recast operand of real numbers holds real numbers. -/
theorem block_real (q : FVec Ideal S2x16x2048x128 .f32) (hq : ∀ i, ∃ r : ℝ, q i = r) (b : Fin 16) (y : S2x2048x128.Idx) :
    ∃ r : ℝ, block (shapeCast S16x2x2048x128 q shapeCasts_S2x16x2048x128_S16x2x2048x128) b y = r :=
  hq _

/-- The kernel's result is the reference's, where queries and keys are real numbers and the mask is the layout. -/
theorem result_eq (q k v : FVec Ideal S2x16x2048x128 .f32) (w : IVec S16x2048x2048 1) (hq : ∀ i, ∃ r : ℝ, q i = r)
    (hk : ∀ i, ∃ r : ℝ, k i = r) (hw : ∀ h i j, w (ix3 h i j) = 1#1 ↔ Layout i.val j.val) :
    result q k v = Cert.ReferenceIdeal.Read.result q k v w := by
  funext y
  idx_vars y
  refine Eq.trans ?_ (Cert.ReferenceIdeal.Read.result_at q k v w y0 y1 y2 y3).symm
  have hr := y2.isLt
  refine (cast_out _ y0 y1 y2 y3).trans ?_
  have e := tile_eq (block (shapeCast S16x2x2048x128 q shapeCasts_S2x16x2048x128_S16x2x2048x128) (pairOf y0 y1))
    (block (shapeCast S16x2x2048x128 k shapeCasts_S2x16x2048x128_S16x2x2048x128) (pairOf y0 y1))
    (block (shapeCast S16x2x2048x128 v shapeCasts_S2x16x2048x128_S16x2x2048x128) (pairOf y0 y1))
    (block_real q hq _) (block_real k hk _) (within y0 y1) (y2.val / 128) (by omega) ⟨y2.val % 128, by omega⟩ y3
    (fun j => w (ix3 y1 y2 j) = 1#1) (fun j => (hw y1 y2 j).trans (by
      show Layout y2.val j.val ↔ Layout (128 * (y2.val / 128) + y2.val % 128) j.val
      rw [Nat.div_add_mod]))
  have er : trow (y2.val / 128) (y2.val % 128) = y2 := Fin.ext (by
    show (128 * (y2.val / 128) + y2.val % 128) % 2048 = y2.val
    omega)
  simp only [dotScaled, er] at e
  refine Eq.trans e ?_
  refine congrArg₂ (masked fun j => w (ix3 y1 y2 j) = 1#1) (funext fun j => ?_) (funext fun j => block_at v y0 y1 j y3)
  refine congrArg (fun s : EReal => s * scale) (Finset.sum_congr rfl fun x _ => ?_)
  exact congrArg₂ (fun s s' : EReal => s * s') (block_at q y0 y1 y2 x) (block_at k y0 y1 j x)

end Cert.KernelIdeal.Tile

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_fixed_layout
public import proofs.«01_k».proof.Proof.Bits.Frame
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- The reference runs, its arguments stay, and every semaphore counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2, Idealize.ShloMosaic.sem_eq_zero_of_no_sems (by decide) r.2⟩) (Cert.ReferenceIdeal.Read.run m g)

/-- The claims, each from its own theorem; the value claim by the two runs and the equality of their results. -/
theorem claim : Cert.Claim := ⟨Cert.Kernel.Gen.facts, Cert.KernelIdeal.Gen.facts, Cert.ReferenceIdeal.Gen.facts, Cert.Pre_finite_fixed_layout.Gen.facts, by
  refine ⟨fun m g _ => Cert.Kernel.Run.frame m g, fun m g _ => Cert.KernelIdeal.Run.frame m g, fun m g _ => Cert.KernelIdeal.Run.frame m g,
    fun m g _ => reference_frame m g, fun m g _ => reference_frame m g, trivial, ?_⟩
  intro m g m' g' hp hm
  refine ⟨fun c => Cert.KernelIdeal.Tile.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tile.run m g, (θ_run _ _ _).mono (fun r h c => ⟨(h c).1.trans ?_, (h c).2⟩) (Cert.ReferenceIdeal.Read.run m' g')⟩
  obtain ⟨e0, e1, e2, e3⟩ := hm c
  rw [e0, e1, e2, e3]
  obtain ⟨hq, hk, hw⟩ := Cert.Pre_finite_fixed_layout.Read.reading _ _ _ _ fun x => congrFun (hp c) x
  exact (Cert.KernelIdeal.Tile.result_eq _ _ _ _ hq hk hw).symm⟩

end Cert.Proof

end
